-- ==== Defs.lean ====
def Pre_Kernel [hPre_exchange_Kernel : Cert.Pre_exchange_Kernel.Facts] (m : (ℓ : Loc Cert.Kernel.nD Cert.Kernel.τ Cert.Kernel.sig) → Buf (Elt Bits) ℓ) : Prop :=
  ∀ c : Dev Cert.Kernel.nD,
    (Cert.Pre_exchange_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_keep_Kernel [hPre_keep_Kernel : Cert.Pre_keep_Kernel.Facts] (m : (ℓ : Loc Cert.Kernel.nD Cert.Kernel.τ Cert.Kernel.sig) → Buf (Elt Bits) ℓ) : Prop :=
  ∀ c : Dev Cert.Kernel.nD,
    (Cert.Pre_keep_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_exchange_Kernel : Cert.Pre_exchange_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_exchange_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_keep_Kernel [hPre_keep_Kernel : Cert.Pre_keep_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_keep_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_exchange_ReferenceIdeal [hPre_exchange_ReferenceIdeal : Cert.Pre_exchange_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_exchange_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_keep_ReferenceIdeal [hPre_keep_ReferenceIdeal : Cert.Pre_keep_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_keep_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceWords [hPre_exchange_ReferenceIdeal : Cert.Pre_exchange_ReferenceIdeal.Facts] (m : (ℓ : Loc Cert.ReferenceWords.nD Cert.ReferenceWords.τ Cert.ReferenceWords.sig) → Buf (Elt Bits) ℓ) : Prop :=
  ∀ c : Dev Cert.ReferenceWords.nD,
    (Cert.Pre_exchange_ReferenceIdeal.fn (F := Bits) (m ((c.tc : Thread Cert.ReferenceWords.nD Cert.ReferenceWords.τ).loc Cert.ReferenceWords.main_arg0)) (m ((c.tc : Thread Cert.ReferenceWords.nD Cert.ReferenceWords.τ).loc Cert.ReferenceWords.main_arg1))) = (fun _ => 1#1)

def Pre_ReferenceWords_keep_ReferenceIdeal [hPre_keep_ReferenceIdeal : Cert.Pre_keep_ReferenceIdeal.Facts] (m : (ℓ : Loc Cert.ReferenceWords.nD Cert.ReferenceWords.τ Cert.ReferenceWords.sig) → Buf (Elt Bits) ℓ) : Prop :=
  ∀ c : Dev Cert.ReferenceWords.nD,
    (Cert.Pre_keep_ReferenceIdeal.fn (F := Bits) (m ((c.tc : Thread Cert.ReferenceWords.nD Cert.ReferenceWords.τ).loc Cert.ReferenceWords.main_arg0)) (m ((c.tc : Thread Cert.ReferenceWords.nD Cert.ReferenceWords.τ).loc Cert.ReferenceWords.main_arg1))) = (fun _ => 1#1)

def quiescent_Kernel [hKernel : Cert.Kernel.Facts] [hPre_exchange_Kernel : Cert.Pre_exchange_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_keep_Kernel [hKernel : Cert.Kernel.Facts] [hPre_keep_Kernel : Cert.Pre_keep_Kernel.Facts] : Prop :=
  ∀ (m : (ℓ : Loc Cert.Kernel.nD Cert.Kernel.τ Cert.Kernel.sig) → Buf (Elt Bits) ℓ) (g : Dev Cert.Kernel.nD → PrngReg), Pre_Kernel_keep_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_exchange_Kernel : Cert.Pre_exchange_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_keep_Kernel [hKernelIdeal : Cert.KernelIdeal.Facts] [hPre_keep_Kernel : Cert.Pre_keep_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_keep_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_exchange_ReferenceIdeal [hReferenceIdeal : Cert.ReferenceIdeal.Facts] [hPre_exchange_ReferenceIdeal : Cert.Pre_exchange_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_exchange_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_keep_ReferenceIdeal [hReferenceIdeal : Cert.ReferenceIdeal.Facts] [hPre_keep_ReferenceIdeal : Cert.Pre_keep_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_keep_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceWords [hReferenceWords : Cert.ReferenceWords.Facts] [hPre_exchange_ReferenceIdeal : Cert.Pre_exchange_ReferenceIdeal.Facts] : Prop :=
  ∀ (m : (ℓ : Loc Cert.ReferenceWords.nD Cert.ReferenceWords.τ Cert.ReferenceWords.sig) → Buf (Elt Bits) ℓ) (g : Dev Cert.ReferenceWords.nD → PrngReg), Pre_ReferenceWords m →
    θ_run (Cert.ReferenceWords.defs (F := Bits)) (onTc (τ := Cert.ReferenceWords.τ) (Cert.ReferenceWords.main (F := Bits))) ⟨m, fun _ => 0, g⟩ (fun r => (∀ c : Dev Cert.ReferenceWords.nD,
      r.2.mem ((c.tc : Thread Cert.ReferenceWords.nD Cert.ReferenceWords.τ).loc Cert.ReferenceWords.main_arg0) = m ((c.tc : Thread Cert.ReferenceWords.nD Cert.ReferenceWords.τ).loc Cert.ReferenceWords.main_arg0)
      ∧ r.2.mem ((c.tc : Thread Cert.ReferenceWords.nD Cert.ReferenceWords.τ).loc Cert.ReferenceWords.main_arg1) = m ((c.tc : Thread Cert.ReferenceWords.nD Cert.ReferenceWords.τ).loc Cert.ReferenceWords.main_arg1))
      ∧ r.2.sem = fun _ => 0)

def quiescent_ReferenceWords_pre_keep_ReferenceIdeal [hReferenceWords : Cert.ReferenceWords.Facts] [hPre_keep_ReferenceIdeal : Cert.Pre_keep_ReferenceIdeal.Facts] : Prop :=
  ∀ (m : (ℓ : Loc Cert.ReferenceWords.nD Cert.ReferenceWords.τ Cert.ReferenceWords.sig) → Buf (Elt Bits) ℓ) (g : Dev Cert.ReferenceWords.nD → PrngReg), Pre_ReferenceWords_keep_ReferenceIdeal m →
    θ_run (Cert.ReferenceWords.defs (F := Bits)) (onTc (τ := Cert.ReferenceWords.τ) (Cert.ReferenceWords.main (F := Bits))) ⟨m, fun _ => 0, g⟩ (fun r => (∀ c : Dev Cert.ReferenceWords.nD,
      r.2.mem ((c.tc : Thread Cert.ReferenceWords.nD Cert.ReferenceWords.τ).loc Cert.ReferenceWords.main_arg0) = m ((c.tc : Thread Cert.ReferenceWords.nD Cert.ReferenceWords.τ).loc Cert.ReferenceWords.main_arg0)
      ∧ r.2.mem ((c.tc : Thread Cert.ReferenceWords.nD Cert.ReferenceWords.τ).loc Cert.ReferenceWords.main_arg1) = m ((c.tc : Thread Cert.ReferenceWords.nD Cert.ReferenceWords.τ).loc Cert.ReferenceWords.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_exchange_Kernel : Cert.Pre_exchange_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 2, 4] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_keep_Kernel [hKernelIdeal : Cert.KernelIdeal.Facts] [hReferenceIdeal : Cert.ReferenceIdeal.Facts] [hPre_keep_Kernel : Cert.Pre_keep_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_keep_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 2, 4] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def bitexact_Kernel_ReferenceWords [hKernel : Cert.Kernel.Facts] [hReferenceWords : Cert.ReferenceWords.Facts] [hPre_exchange_Kernel : Cert.Pre_exchange_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.ReferenceWords.nD Cert.ReferenceWords.τ Cert.ReferenceWords.sig) → Buf (Elt Bits) ℓ) (g' : Dev Cert.ReferenceWords.nD → PrngReg), Pre_Kernel m →
    (∀ c : Dev Cert.Kernel.nD,
      m ((c.tc : Thread Cert.Kernel.nD Cert.Kernel.τ).loc Cert.Kernel.main_arg0) = Layout.blockN ⟨3, ![1, 512, 512]⟩ ⟨3, ![2, 512, 512]⟩ (Layout.meshBlock [2, 2, 4] ![[0], [], []] c) (m' (((0 : Dev Cert.ReferenceWords.nD).tc : Thread Cert.ReferenceWords.nD Cert.ReferenceWords.τ).loc Cert.ReferenceWords.main_arg0))
      ∧ m ((c.tc : Thread Cert.Kernel.nD Cert.Kernel.τ).loc Cert.Kernel.main_arg1) = m' (((0 : Dev Cert.ReferenceWords.nD).tc : Thread Cert.ReferenceWords.nD Cert.ReferenceWords.τ).loc Cert.ReferenceWords.main_arg1)) →
    ∃ (v0 : Buf (Elt Bits) (((0 : Dev Cert.ReferenceWords.nD).tc : Thread Cert.ReferenceWords.nD Cert.ReferenceWords.τ).loc Cert.ReferenceWords.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 512, 512]⟩ ⟨3, ![2, 512, 512]⟩ (Layout.meshBlock [2, 2, 4] ![[0], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.ReferenceWords.defs (F := Bits)) (onTc (τ := Cert.ReferenceWords.τ) (Cert.ReferenceWords.main (F := Bits))) ⟨m', fun _ => 0, g'⟩ (fun r =>
          r.2.mem (((0 : Dev Cert.ReferenceWords.nD).tc : Thread Cert.ReferenceWords.nD Cert.ReferenceWords.τ).loc Cert.ReferenceWords.main_v7) = v0
          ∧ r.2.mem (((0 : Dev Cert.ReferenceWords.nD).tc : Thread Cert.ReferenceWords.nD Cert.ReferenceWords.τ).loc Cert.ReferenceWords.main_arg0) = m' (((0 : Dev Cert.ReferenceWords.nD).tc : Thread Cert.ReferenceWords.nD Cert.ReferenceWords.τ).loc Cert.ReferenceWords.main_arg0)
          ∧ r.2.mem (((0 : Dev Cert.ReferenceWords.nD).tc : Thread Cert.ReferenceWords.nD Cert.ReferenceWords.τ).loc Cert.ReferenceWords.main_arg1) = m' (((0 : Dev Cert.ReferenceWords.nD).tc : Thread Cert.ReferenceWords.nD Cert.ReferenceWords.τ).loc Cert.ReferenceWords.main_arg1))

def bitexact_Kernel_ReferenceWords_pre_keep_Kernel [hKernel : Cert.Kernel.Facts] [hReferenceWords : Cert.ReferenceWords.Facts] [hPre_keep_Kernel : Cert.Pre_keep_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.ReferenceWords.nD Cert.ReferenceWords.τ Cert.ReferenceWords.sig) → Buf (Elt Bits) ℓ) (g' : Dev Cert.ReferenceWords.nD → PrngReg), Pre_Kernel_keep_Kernel m →
    (∀ c : Dev Cert.Kernel.nD,
      m ((c.tc : Thread Cert.Kernel.nD Cert.Kernel.τ).loc Cert.Kernel.main_arg0) = Layout.blockN ⟨3, ![1, 512, 512]⟩ ⟨3, ![2, 512, 512]⟩ (Layout.meshBlock [2, 2, 4] ![[0], [], []] c) (m' (((0 : Dev Cert.ReferenceWords.nD).tc : Thread Cert.ReferenceWords.nD Cert.ReferenceWords.τ).loc Cert.ReferenceWords.main_arg0))
      ∧ m ((c.tc : Thread Cert.Kernel.nD Cert.Kernel.τ).loc Cert.Kernel.main_arg1) = m' (((0 : Dev Cert.ReferenceWords.nD).tc : Thread Cert.ReferenceWords.nD Cert.ReferenceWords.τ).loc Cert.ReferenceWords.main_arg1)) →
    ∃ (v0 : Buf (Elt Bits) (((0 : Dev Cert.ReferenceWords.nD).tc : Thread Cert.ReferenceWords.nD Cert.ReferenceWords.τ).loc Cert.ReferenceWords.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 512, 512]⟩ ⟨3, ![2, 512, 512]⟩ (Layout.meshBlock [2, 2, 4] ![[0], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.ReferenceWords.defs (F := Bits)) (onTc (τ := Cert.ReferenceWords.τ) (Cert.ReferenceWords.main (F := Bits))) ⟨m', fun _ => 0, g'⟩ (fun r =>
          r.2.mem (((0 : Dev Cert.ReferenceWords.nD).tc : Thread Cert.ReferenceWords.nD Cert.ReferenceWords.τ).loc Cert.ReferenceWords.main_v7) = v0
          ∧ r.2.mem (((0 : Dev Cert.ReferenceWords.nD).tc : Thread Cert.ReferenceWords.nD Cert.ReferenceWords.τ).loc Cert.ReferenceWords.main_arg0) = m' (((0 : Dev Cert.ReferenceWords.nD).tc : Thread Cert.ReferenceWords.nD Cert.ReferenceWords.τ).loc Cert.ReferenceWords.main_arg0)
          ∧ r.2.mem (((0 : Dev Cert.ReferenceWords.nD).tc : Thread Cert.ReferenceWords.nD Cert.ReferenceWords.τ).loc Cert.ReferenceWords.main_arg1) = m' (((0 : Dev Cert.ReferenceWords.nD).tc : Thread Cert.ReferenceWords.nD Cert.ReferenceWords.τ).loc Cert.ReferenceWords.main_arg1))

def Claim : Prop :=
  ∃ (hKernel : Cert.Kernel.Facts) (hKernelIdeal : Cert.KernelIdeal.Facts) (hReferenceIdeal : Cert.ReferenceIdeal.Facts) (hReferenceWords : Cert.ReferenceWords.Facts) (hPre_exchange_Kernel : Cert.Pre_exchange_Kernel.Facts) (hPre_keep_Kernel : Cert.Pre_keep_Kernel.Facts) (hPre_exchange_ReferenceIdeal : Cert.Pre_exchange_ReferenceIdeal.Facts) (hPre_keep_ReferenceIdeal : Cert.Pre_keep_ReferenceIdeal.Facts),
    quiescent_Kernel (hKernel := hKernel) (hPre_exchange_Kernel := hPre_exchange_Kernel)
    ∧ quiescent_Kernel_pre_keep_Kernel (hKernel := hKernel) (hPre_keep_Kernel := hPre_keep_Kernel)
    ∧ quiescent_KernelIdeal (hKernelIdeal := hKernelIdeal) (hPre_exchange_Kernel := hPre_exchange_Kernel)
    ∧ quiescent_KernelIdeal_pre_keep_Kernel (hKernelIdeal := hKernelIdeal) (hPre_keep_Kernel := hPre_keep_Kernel)
    ∧ quiescent_ReferenceIdeal (hReferenceIdeal := hReferenceIdeal)
    ∧ quiescent_ReferenceIdeal_pre_exchange_ReferenceIdeal (hReferenceIdeal := hReferenceIdeal) (hPre_exchange_ReferenceIdeal := hPre_exchange_ReferenceIdeal)
    ∧ quiescent_ReferenceIdeal_pre_keep_ReferenceIdeal (hReferenceIdeal := hReferenceIdeal) (hPre_keep_ReferenceIdeal := hPre_keep_ReferenceIdeal)
    ∧ quiescent_ReferenceWords (hReferenceWords := hReferenceWords) (hPre_exchange_ReferenceIdeal := hPre_exchange_ReferenceIdeal)
    ∧ quiescent_ReferenceWords_pre_keep_ReferenceIdeal (hReferenceWords := hReferenceWords) (hPre_keep_ReferenceIdeal := hPre_keep_ReferenceIdeal)
    ∧ preserves_Kernel_KernelIdeal
    ∧ algebraic_KernelIdeal_ReferenceIdeal (hKernelIdeal := hKernelIdeal) (hReferenceIdeal := hReferenceIdeal) (hPre_exchange_Kernel := hPre_exchange_Kernel)
    ∧ algebraic_KernelIdeal_ReferenceIdeal_pre_keep_Kernel (hKernelIdeal := hKernelIdeal) (hReferenceIdeal := hReferenceIdeal) (hPre_keep_Kernel := hPre_keep_Kernel)
    ∧ bitexact_Kernel_ReferenceWords (hKernel := hKernel) (hReferenceWords := hReferenceWords) (hPre_exchange_Kernel := hPre_exchange_Kernel)
    ∧ bitexact_Kernel_ReferenceWords_pre_keep_Kernel (hKernel := hKernel) (hReferenceWords := hReferenceWords) (hPre_keep_Kernel := hPre_keep_Kernel)
-- ==== Pre_exchange_Kernel.lean ====
abbrev S1x512x512 : Shape := ⟨3, ![1, 512, 512]⟩
abbrev S2 : Shape := ⟨1, ![2]⟩

class Facts : Prop where

variable [Facts]

noncomputable abbrev lit0 : Fin 2 → BitVec 32 := fun
  | 0 => 1#32 | 1 => 0#32
  | _ => 0#32

def fn {F : FTy → Type} [FloatOps F] (main_arg0 : FVec F S1x512x512 .bf16) (main_arg1 : IVec S2 32) : IVec S2 1 :=
  let main_c : IVec S2 32 := fun i => lit0 (S2.rowMajor i)
  let main_v0 : IVec S2 1 := cmpi .eq main_arg1 main_c
  main_v0
-- ==== Pre_exchange_ReferenceIdeal.lean ====
abbrev S2x512x512 : Shape := ⟨3, ![2, 512, 512]⟩
abbrev S2 : Shape := ⟨1, ![2]⟩

class Facts : Prop where

variable [Facts]

noncomputable abbrev lit0 : Fin 2 → BitVec 32 := fun
  | 0 => 1#32 | 1 => 0#32
  | _ => 0#32

def fn {F : FTy → Type} [FloatOps F] (main_arg0 : FVec F S2x512x512 .bf16) (main_arg1 : IVec S2 32) : IVec S2 1 :=
  let main_c : IVec S2 32 := fun i => lit0 (S2.rowMajor i)
  let main_v0 : IVec S2 1 := cmpi .eq main_arg1 main_c
  main_v0
-- ==== Pre_keep_Kernel.lean ====
abbrev S1x512x512 : Shape := ⟨3, ![1, 512, 512]⟩
abbrev S2 : Shape := ⟨1, ![2]⟩

class Facts : Prop where

variable [Facts]

noncomputable abbrev lit0 : Fin 2 → BitVec 32 := fun
  | 0 => 0#32 | 1 => 1#32
  | _ => 0#32

def fn {F : FTy → Type} [FloatOps F] (main_arg0 : FVec F S1x512x512 .bf16) (main_arg1 : IVec S2 32) : IVec S2 1 :=
  let main_c : IVec S2 32 := fun i => lit0 (S2.rowMajor i)
  let main_v0 : IVec S2 1 := cmpi .eq main_arg1 main_c
  main_v0
-- ==== Pre_keep_ReferenceIdeal.lean ====
abbrev S2x512x512 : Shape := ⟨3, ![2, 512, 512]⟩
abbrev S2 : Shape := ⟨1, ![2]⟩

class Facts : Prop where

variable [Facts]

noncomputable abbrev lit0 : Fin 2 → BitVec 32 := fun
  | 0 => 0#32 | 1 => 1#32
  | _ => 0#32

def fn {F : FTy → Type} [FloatOps F] (main_arg0 : FVec F S2x512x512 .bf16) (main_arg1 : IVec S2 32) : IVec S2 1 :=
  let main_c : IVec S2 32 := fun i => lit0 (S2.rowMajor i)
  let main_v0 : IVec S2 1 := cmpi .eq main_arg1 main_c
  main_v0
-- ==== Kernel.lean ====
abbrev S1x512x512 : Shape := ⟨3, ![1, 512, 512]⟩
abbrev S2 : Shape := ⟨1, ![2]⟩
abbrev S_ : Shape := ⟨0, ![]⟩
abbrev S1 : Shape := ⟨1, ![1]⟩

abbrev nBuf : Space → Nat
  | .hbm => 3
  | .vmem => 3
  | .smem => 1
  | _ => 0

abbrev bufTy : (tb : Table) → Fin (tcTables nBuf tb) → BufTy
  | .hbm, ⟨0, _⟩ => ⟨S1x512x512, .bf16⟩
  | .hbm, ⟨1, _⟩ => ⟨S2, .i32⟩
  | .hbm, ⟨2, _⟩ => ⟨S1x512x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .smem, ⟨0, _⟩ => ⟨S2, .i32⟩
  | _, _ => ⟨S1x512x512, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_off1 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : Index := Scalar.indexCast v2
  ![v9.toNat]
def k0_dev1 (d0 : Dev nD) (v10 : BitVec 32) : Nat :=
  let c0_i32_5 : BitVec 32 := 0#32
  let c8_i32_4 : BitVec 32 := 8#32
  let v18 : BitVec 32 := Scalar.muli v10 c8_i32_4
  let v19 : BitVec 32 := Scalar.addi c0_i32_5 v18
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6 : BitVec 32 := 4#32
  let v20 : BitVec 32 := Scalar.muli v5 c4_i32_6
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v22 : BitVec 32 := Scalar.muli v8 c1_i32_7
  let v23 : BitVec 32 := Scalar.addi v21 v22
  v23.toNat
def k0_cond2 (d0 : Dev nD) (v10 : BitVec 32) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v15 : BitVec 1 := Scalar.cmpi .ne v10 v2
  let v16 : BitVec 32 := Scalar.extui v15
  let c0_i32_2 : BitVec 32 := 0#32
  let v17 : BitVec 1 := Scalar.cmpi .ne v16 c0_i32_2
  v17

def k0_dev2 (d0 : Dev nD) (v10 : BitVec 32) : Nat :=
  let c0_i32_15 : BitVec 32 := 0#32
  let c8_i32_14 : BitVec 32 := 8#32
  let v29 : BitVec 32 := Scalar.muli v10 c8_i32_14
  let v30 : BitVec 32 := Scalar.addi c0_i32_15 v29
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_16 : BitVec 32 := 4#32
  let v31 : BitVec 32 := Scalar.muli v5 c4_i32_16
  let v32 : BitVec 32 := Scalar.addi v30 v31
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v33 : BitVec 32 := Scalar.muli v8 c1_i32_17
  let v34 : BitVec 32 := Scalar.addi v32 v33
  v34.toNat

def k0_chk1 (d0 : Dev nD) (v10 : BitVec 32) : Prop :=
  (∀ (k0_h2 : k0_cond2 d0 v10 = 1#1), (k0_dev1 d0 v10) < nD) ∧
  (∀ (k0_h2 : k0_cond2 d0 v10 = 1#1), (k0_dev2 d0 v10) < nD)
theorem k0_dev1_lt : ∀ (d0 : Dev nD) (v10 : BitVec 32) (k0_hw1 : k0_chk1 d0 v10), ∀ (k0_h2 : k0_cond2 d0 v10 = 1#1), (k0_dev1 d0 v10) < nD := fun d0 v10 k0_hw1 k0_h2 => k0_hw1.1 k0_h2
theorem k0_dev2_lt : ∀ (d0 : Dev nD) (v10 : BitVec 32) (k0_hw1 : k0_chk1 d0 v10), ∀ (k0_h2 : k0_cond2 d0 v10 = 1#1), (k0_dev2 d0 v10) < nD := fun d0 v10 k0_hw1 k0_h2 => k0_hw1.2 k0_h2

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x512x512 : Shape := ⟨3, ![2, 512, 512]⟩
abbrev S2 : Shape := ⟨1, ![2]⟩
abbrev S_ : Shape := ⟨0, ![]⟩
abbrev S2x1 : Shape := ⟨2, ![2, 1]⟩

abbrev nBuf : Space → Nat
  | .hbm => 16
  | .vmem => 0
  | .smem => 0
  | _ => 0

abbrev bufTy : (tb : Table) → Fin (tcTables nBuf tb) → BufTy
  | .hbm, ⟨0, _⟩ => ⟨S2x512x512, .bf16⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x512x512, .bf16⟩
  | .hbm, ⟨14, _⟩ => ⟨S2x512x512, .f32⟩
  | .hbm, ⟨15, _⟩ => ⟨S2x512x512, .bf16⟩
  | _, _ => ⟨S2x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== ReferenceWords.lean ====
abbrev S2x512x512 : Shape := ⟨3, ![2, 512, 512]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x512x512, .bf16⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x512x512, .bf16⟩
  | _, _ => ⟨S2x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Common.lean ====
/-
# What the two cases share

The kernel reads, on device `c`, word `c / 8` of its copy of the table `pi`: the coordinate of the device it trades
blocks with. Two tables are possible on a mesh of extent two along that axis, `[1, 0]` (every device trades with the
one eight away, Proof/Trade.lean) and `[0, 1]` (every device keeps its block, Proof/Stay.lean). Here are the parts
that do not depend on which it is: the buffers and their contents, the table word the body reads, and the launch
(`run_of`), which turns a proof of the body on every device into a statement about the whole run.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Pipeline.CollectiveSegs
public import Idealize.ShloMosaic.Lib.Scf
public import Idealize.ShloMosaic.Lib.Tactic

@[expose] public section

noncomputable section

namespace Cert.Pairs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-- Two copies of the rounds algebra: one for the staging transfers, one for the trade. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

abbrev noVar : Variants := Variants.none

/-! ## Buffers and semaphores -/

abbrev tabM : Memref sig .tc .smem S2 .i32 := Memref.whole cc0_stg0_0
abbrev inM : Memref sig .tc .vmem S1x512x512 .bf16 := Memref.whole cc0_stg1_0
abbrev outM : Memref sig .tc .vmem S1x512x512 .bf16 := Memref.whole cc0_stg2_0
abbrev comM : Memref sig .tc .vmem S1x512x512 .bf16 := Memref.whole cc0_scratch0

abbrev barS : Sem sig := (SemArray.scalar (sig.barrier 0 rfl) : Sems sig S_).sem
abbrev sndS : DmaSem sig := (cc0_scratch1 : DmaSems sig S_).sem
abbrev rcvS : DmaSem sig := (cc0_scratch2 : DmaSems sig S_).sem

/-- A device's three cells: the barrier, its outgoing and its incoming transfer. -/
abbrev barC (c : Dev nD) : GSem nD τ sig := ((c : Thread nD τ), .reg barS)
abbrev sndC (c : Dev nD) : GSem nD τ sig := ((c : Thread nD τ), .dma sndS)
abbrev rcvC (c : Dev nD) : GSem nD τ sig := ((c : Thread nD τ), .dma rcvS)

/-- The two that the launch scopes. -/
abbrev ownSem : Fin 2 → SemLoc sig := fun | 0 => .dma sndS | 1 => .dma rcvS

/-- The whole buffer `b` of device `c` at contents `f`. -/
abbrev holds (c : Dev nD) (b : Ref sig .tc) (f : b.ty.Contents (Elt F)) : sProp 𝕄 :=
  ((c : Thread nD τ).loc b) ↦{fullShare} (f : Buf (Elt F) ((c : Thread nD τ).loc b))

omit [FloatOps F] in
theorem owns_eq_holds (c : Dev nD) (b : Ref sig .tc) (f : b.ty.Contents (Elt F)) :
    (owns (Ix := Unit) (Name := ℕ) (U := UU) (Lvl := ℕ) (c : Thread nD τ) (Memref.whole b) fullShare f : sProp 𝕄) = holds c b f := by
  unfold owns; simp only [Memref.view_whole, View.read_whole, View.set_whole]
  refine Idealize.SL.BI.Entails.antisymm (show iprop(∃ g : Buf (Elt F) ((c : Thread nD τ).loc b), ⌜g = f⌝ ∗ holds c b g) ⊢ holds c b f from ?_)
    (show holds c b f ⊢ iprop(∃ g : Buf (Elt F) ((c : Thread nD τ).loc b), ⌜g = f⌝ ∗ holds c b g) from ?_)
  · iintro ⟨%g, %hg, H⟩; subst hg; iexact H
  · iintro H; iexists f; isplitr
    · ipureintro; rfl
    iexact H

/-! ## Contents -/

variable (m : (ℓ : Loc nD τ sig) → Buf (Elt F) ℓ) (ρ : Dev nD → PrngReg)

/-- Device `c`'s block of `x` and its copy of the table. -/
abbrev xOf (c : Dev nD) : FVec F S1x512x512 .bf16 := m ((c : Thread nD τ).loc main_arg0)
abbrev tabOf (c : Dev nD) : IVec S2 32 := m ((c : Thread nD τ).loc main_arg1)

/-- The rectangle covering a block buffer whole. -/
abbrev full : Rect S1x512x512 := Rect.unit (s := S1x512x512) ![0, 0, 0] S1x512x512.size inb_S1x512x512_S1x512x512_0_0_0

omit [FloatOps F] in
theorem origin : (![0, 0, 0] : Fin 3 → Nat) = fun _ => 0 := funext fun a => by fin_cases a <;> rfl

omit [FloatOps F] in
theorem load_in (f : (cc0_stg1_0 : Ref sig .tc).ty.Contents (Elt F)) : inM.view.readAt (Elt F) full.toLoadRect f = f :=
  Memref.readAt_unit_zero (Elt F) cc0_stg1_0 origin _ f
omit [FloatOps F] in
theorem store_out (f w : (cc0_stg2_0 : Ref sig .tc).ty.Contents (Elt F)) :
    (outM.access full : View sig .tc _ _ _).write (Elt F) f w Finset.univ = w :=
  Memref.write_access_unit_zero_univ (Elt F) cc0_stg2_0 origin _ f w
omit [FloatOps F] in
theorem store_com (f w : (cc0_scratch0 : Ref sig .tc).ty.Contents (Elt F)) :
    (comM.access full : View sig .tc _ _ _).write (Elt F) f w Finset.univ = w :=
  Memref.write_access_unit_zero_univ (Elt F) cc0_scratch0 origin _ f w

/-- A cast to the same shape changes nothing. -/
theorem pay1_eq (v : Vec F S1x512x512 .bf16) : k0_pay1 v = v := shapeCast_self v _
theorem pay2_eq (v : Vec F S1x512x512 .bf16) : k0_pay2 v = v := by
  unfold k0_pay2; exact (shapeCast_self _ _).trans (shapeCast_self v _)

/-! ## The table word -/

/-- Where device `c` looks in the table. -/
def slot (c : Dev nD) : S2.Idx := fun a => ⟨c.val / 8, by have : c.val < 16 := c.isLt; fin_cases a; show c.val / 8 < 2; omega⟩

abbrev wordRect (c : Dev nD) : Rect S2 := Rect.unit (s := S2) (k0_off1 c) S1.size (k0_off1_inb c)
/-- The word the body reads of a staged table. -/
abbrev wordAt (c : Dev nD) (tb : (cc0_stg0_0 : Ref sig .tc).ty.Contents (Elt F)) : BitVec 32 :=
  (tabM.access (wordRect c) : View sig .tc _ _ _).read (Elt F) tb (Shape.Idx.first (s := S1) (numel1_S1.symm ▸ Nat.one_pos))

omit [FloatOps F] in
theorem wordAt_eq (c : Dev nD) : wordAt (F := F) c (tabOf m c) = tabOf m c (slot c) := by
  show m ((c : Thread nD τ).loc main_arg1) _ = _
  refine congrArg _ (funext fun a => Fin.ext ?_)
  fin_cases a; fin_cases c <;> rfl

/-- The body's first test of a word: whether it is device `c`'s own coordinate. -/
abbrev isOwn (c : Dev nD) (w : BitVec 32) : BitVec 1 :=
  Scalar.cmpi .ne (Scalar.extui (Scalar.cmpi .eq w (Scalar.remsi (Scalar.divsi (Dev.word c) 8#32) 2#32)) : BitVec 32) 0#32

/-! ## The pipeline's data -/

theorem one_point (t : Fin cfg0.N) : t = t0_0 := fin_N0 t

/-- What the pipeline is told of device `c`: the inputs stay in their staging buffers, the result's ends at `out c`;
    the body starts at `S c` (with the scratch buffer) and ends at `E c`, owing `O c` before and nothing after. -/
def plan (out : Dev nD → FVec F S1x512x512 .bf16) (S E : Dev nD → sProp 𝕄) (O : Dev nD → CellTallies nD τ sig Unit)
    (_ : Fin 1) (c : Dev nD) : Dat τ (Elt F) Unit ℕ UU ℕ cfg0 c where
  A w := m ((cfg0.win w).arr.view.loc (c : Thread nD τ))
  after w _ := match w with
    | ⟨0, _⟩ => tabOf m c
    | ⟨1, _⟩ => xOf m c
    | ⟨2, _⟩ => out c
  Φ t := match t with
    | ⟨0, _⟩ => iprop(S c ∗ ∃ f, holds c cc0_scratch0 f)
    | ⟨_ + 1, _⟩ => E c
  q _ := fullShare
  owed t := match t with
    | ⟨0, _⟩ => O c
    | ⟨_ + 1, _⟩ => 0

section Plan
variable (out : Dev nD → FVec F S1x512x512 .bf16) (S E : Dev nD → sProp (MT nD τ sig Unit (Elt F) ℕ UU ℕ)) (O : Dev nD → CellTallies nD τ sig Unit)

theorem plan_share (c : Dev nD) (w : Fin cfg0.W) : (plan m out S E O 0 c).share w = fullShare := by
  unfold Dat.share; split <;> rfl

/-- A window with no grid is its array whole. -/
theorem block_tab (f : (main_arg1 : Ref sig .tc).ty.Contents (Elt F)) : (win0_0.blk t0_0).view.read (Elt F) f = f :=
  Memref.read_access_unit_zero (Elt F) main_arg1 (funext fun a => by fin_cases a; rfl) _ f
theorem block_x (f : (main_arg0 : Ref sig .tc).ty.Contents (Elt F)) : (win0_1.blk t0_0).view.read (Elt F) f = f :=
  Memref.read_access_unit_zero (Elt F) main_arg0 (funext fun a => by fin_cases a <;> rfl) _ f
theorem block_res (f : (main_v1 : Ref sig .tc).ty.Contents (Elt F)) : (win0_2.blk t0_0).view.read (Elt F) f = f :=
  Memref.read_access_unit_zero (Elt F) main_v1 (funext fun a => by fin_cases a <;> rfl) _ f

theorem before_tab (c : Dev nD) (d) : (plan m out S E O 0 c).before (0 : Fin 3) t0_0 d = tabOf m c := by
  unfold Dat.before; rw [if_pos (fetch0_0 t0_0)]; exact block_tab (F := F) (tabOf m c)
theorem before_x (c : Dev nD) (d) : (plan m out S E O 0 c).before (1 : Fin 3) t0_0 d = xOf m c := by
  unfold Dat.before; rw [if_pos (fetch0_1 t0_0)]; exact block_x (F := F) (xOf m c)

/-- The result array after the run. -/
theorem result_eq (c : Dev nD) : (plan m out S E O 0 c).arrAt (2 : Fin 3) cfg0.N = out c := by
  have h : (win0_2.blk t0_0).view.read (Elt F) ((plan m out S E O 0 c).arrAt (2 : Fin 3) cfg0.N) = (plan m out S E O 0 c).flushed (2 : Fin 3) t0_0 := by
    rw [show cfg0.N = t0_0.val + 1 from rfl, (plan m out S E O 0 c).arrAt_succ (2 : Fin 3) t0_0, flush0_2 t0_0, if_pos rfl]
    exact View.read_write_univ _ _
  exact (block_res (F := F) _).symm.trans (h.trans (funext fun _ => rfl))

end Plan

/-! ## From the bodies to the run -/

/-- The cells with a level: all of the TensorCores'. -/
def L (g : GSem nD τ sig) : Finset Unit := if g.1.2 = .tc then {()} else ∅
theorem L_other (g : GSem nD τ sig) (h : g.1.2 ≠ .tc) : L g = ∅ := if_neg h
theorem L_tc (c : Dev nD) (sm : SemLoc sig) : () ∈ L ((c : Thread nD τ), sm) := by
  rw [show L ((c : Thread nD τ), sm) = {()} from if_pos rfl]; exact Finset.mem_singleton_self _

/-- The body on device `c`, as the pipeline calls it. -/
abbrev bodyProg : Prog (TpuEff nD τ sig (Elt F) Λ₀ .tc) PUnit :=
  cc0_body tabM (Memref.isWhole_whole _) inM (Memref.isWhole_whole _) outM (Memref.isWhole_whole _) comM (Memref.isWhole_whole _) cc0_scratch1 cc0_scratch2

/-- What a body is proved from and to: the staged table and block of `x`, a result buffer and a scratch buffer holding
    anything, and `S c`, to the result buffer at `out c` and `E c`, nothing owed. -/
def Runs (out : Dev nD → FVec F S1x512x512 .bf16) (S E : Dev nD → sProp 𝕄) (O : Dev nD → CellTallies nD τ sig Unit) : Prop :=
  ∀ (c : Dev nD) (W : Waits sig Unit) (Q : PUnit → sProp 𝕄) (f : FVec F S1x512x512 .bf16) (g : FVec F S1x512x512 .bf16),
    iprop(S c ∗ owes (c : Thread nD τ) (O c) W ∗ holds c cc0_stg0_0 (tabOf m c) ∗ holds c cc0_stg1_0 (xOf m c)
        ∗ holds c cc0_stg2_0 f ∗ holds c cc0_scratch0 g
        ∗ (∀ W', (E c ∗ owes (c : Thread nD τ) 0 W' ∗ holds c cc0_stg0_0 (tabOf m c) ∗ holds c cc0_stg1_0 (xOf m c)
            ∗ holds c cc0_stg2_0 (out c)) -∗ Q ⟨⟩))
      ⊢ wp frame (wpE (defs₀ (F := F)) noVar (c : Thread nD τ) none) Set.univ bodyProg Q

variable (out : Dev nD → FVec F S1x512x512 .bf16) (S E : Dev nD → sProp (MT nD τ sig Unit (Elt F) ℕ UU ℕ)) (O : Dev nD → CellTallies nD τ sig Unit)

set_option maxRecDepth 4000 in
/-- The pipeline's obligation on device `c`. -/
theorem obligation (h : Runs m out S E O) (c : Dev nD) :
    BodyObligation (plan m out S E O 0 c) (defs₀ (F := F)) noVar () Set.univ := fun t => by
  rw [one_point t, bigSep_W0, bigSep_W0]
  show iprop((S c ∗ ∃ f, holds c cc0_scratch0 f) ∗ (plan m out S E O 0 c).owesAt () t0_0.castSucc
      ∗ (∃ d, owns (c : Thread nD τ) (Memref.whole cc0_stg0_0) fullShare ((plan m out S E O 0 c).before (0 : Fin 3) t0_0 d))
      ∗ (∃ d, owns (c : Thread nD τ) (Memref.whole cc0_stg1_0) fullShare ((plan m out S E O 0 c).before (1 : Fin 3) t0_0 d))
      ∗ (∃ d, owns (c : Thread nD τ) (Memref.whole cc0_stg2_0) fullShare ((plan m out S E O 0 c).before (2 : Fin 3) t0_0 d)))
    ⊢ wp frame (wpE (defs₀ (F := F)) noVar (c : Thread nD τ) none) Set.univ bodyProg fun _ =>
      iprop(E c ∗ (plan m out S E O 0 c).owesAt () t0_0.succ
        ∗ owns (c : Thread nD τ) (Memref.whole cc0_stg0_0) fullShare (tabOf m c)
        ∗ owns (c : Thread nD τ) (Memref.whole cc0_stg1_0) fullShare (xOf m c)
        ∗ owns (c : Thread nD τ) (Memref.whole cc0_stg2_0) fullShare (out c))
  simp only [before_tab, before_x, owns_eq_holds]
  unfold Dat.owesAt Pipeline.owesWithin
  rw [show (plan m out S E O 0 c).owed t0_0.castSucc = O c from rfl, show (plan m out S E O 0 c).owed t0_0.succ = 0 from rfl]
  iintro ⟨⟨HS, ⟨%g, Hcom⟩⟩, ⟨%W, %hW, HO⟩, ⟨%d0, Htab⟩, ⟨%d1, Hin⟩, ⟨%d2, Hout⟩⟩
  iapply (h c W _ ((plan m out S E O 0 c).before (2 : Fin 3) t0_0 d2) g)
  isplitl [HS]; · iexact HS
  isplitl [HO]; · iexact HO
  isplitl [Htab]; · iexact Htab
  isplitl [Hin]; · iexact Hin
  isplitl [Hout]; · iexact Hout
  isplitl [Hcom]; · iexact Hcom
  iintro %W' ⟨HE, HO, Htab, Hin, Hout⟩
  isplitl [HE]; · iexact HE
  isplitl [HO]
  · iexists W'
    isplitr; · ipureintro; exact fun _ _ => Or.inl trivial
    iexact HO
  isplitl [Htab]; · iexact Htab
  isplitl [Hin] <;> iassumption

theorem ownSemFacts : Pipeline.OwnSemFacts cfg0.spec ownSem := by decide

/-- A device's own cells at zero, and its barrier cell at zero. -/
abbrev ownZero (c : Dev nD) : sProp 𝕄 := iprop(semVal (sndC c) 0 ∗ semVal (rcvC c) 0)

omit [FloatOps F] in
theorem ownSems_eq (c : Dev nD) :
    (Pipeline.ownSems0 (Ix := Unit) (Name := ℕ) (U := UU) (Lvl := ℕ) (Val := Elt F) (τ := τ) ownSem c : sProp 𝕄) = ownZero c := by
  rw [Pipeline.ownSems0_eq_of_list c ownSem [0, 1] (by decide) (by decide)]; rfl
omit [FloatOps F] in
theorem freeSems_eq (c : Dev nD) : (unscopedSems0 c : sProp 𝕄) = semVal (barC c) 0 := by
  unfold unscopedSems0; rw [bigSep_eq_bigSepL_of_eq [SemLoc.reg barS] (by decide) (by decide)]; rfl

/-- The three staging semaphores. -/
def IsStage (q : DmaSem sig) : Prop := q = cc0_sem0_0 ∨ q = cc0_sem1_0 ∨ q = cc0_sem2_0

/-- What a run ends in: every counter at zero, and on every device the result at `out`, the arguments as they were. -/
def Ends (r : PUnit × MemSt nD τ sig (Elt F)) : Prop :=
  (∀ c : Dev nD, r.2.mem ((c : Thread nD τ).loc main_v1) = out c
    ∧ r.2.mem ((c : Thread nD τ).loc main_arg0) = xOf m c ∧ r.2.mem ((c : Thread nD τ).loc main_arg1) = tabOf m c)
  ∧ r.2.sem = fun _ => 0

set_option maxRecDepth 8000 in
/-- THE RUN from the bodies: bodies that take every device from `S` to `E` (`hrun`), levels `lv` that let the staging
    transfers be waited for (`hwait`), a global step that makes each device's `G'` of all the counters at zero and the
    trade's initial state `uT` (`hfund`, `hglob`), from which a device's `S` is made (`hS`), and an `E` that gives the
    counters at zero and the scratch buffer back (`hE`). -/
theorem run_of (hrun : Runs m out S E O) (lv : GSem nD τ sig → Unit → ℕ)
    (hwait : ∀ (c : Dev nD) (q : DmaSem sig), IsStage q → (levAts L lv : sProp 𝕄) ⊢ MayWait (c : Thread nD τ) (.dma q) () (O c))
    (G G' : Dev nD → sProp 𝕄) (uT : UR sig nD τ) (hfund : BI.own (ER uT) ⊢ (|==> bigSep Finset.univ G : sProp 𝕄))
    (hglob : (bigSep Finset.univ fun c : Dev nD => iprop(ownZero c ∗ semVal (barC c) 0 ∗ G c) : sProp 𝕄) ⊢ |={Set.univ}=> bigSep Finset.univ G')
    (hS : ∀ c, iprop(levAts L lv ∗ Pipeline.launchCred O c ∗ G' c) ⊢ S c)
    (hE : ∀ c, E c ⊢ iprop(semVal (barC c) 0 ∗ ownZero c ∗ ∃ f, holds c cc0_scratch0 f)) :
    θ_run defs (onTc (τ := τ) (main (F := F))) ⟨m, fun _ => 0, ρ⟩ (Ends m out) :=
  Pipeline.θ_run_region_owing_glob_pf (fun p => (cfgs p).toPCfg) (fun p => (cfgs p).toPCfg_adm) (plan m out S E O) () cellOf_inj (0 : Fin 1)
    winFacts0.to₀ ownSemFacts (Pipeline.PreFacts.none _) EP defs₀ noVar m ρ main
    (hmain := fun _ => rfl)
    (hbody := obligation m out S E O hrun) (hne := block_pos0) (harr := arr_whole0) (hstage := stage_whole0)
    (hshare := plan_share m out S E O) (hdistinct := winFacts0.arr_inj)
    (O₀ := O) (howed₀ := fun _ => rfl) (howedN := fun _ => rfl)
    (L := L) (lv := lv) (hL := L_other)
    (hwaits := fun c => Pipeline.cellsWaits_intro cfgs (plan m out S E O) () 0 c fun w s t => by
      have hq : IsStage ((cfg0.win w).sem s) := by
        unfold IsStage
        fin_cases w <;> fin_cases s
        · exact Or.inl rfl
        · exact Or.inr (Or.inl rfl)
        · exact Or.inr (Or.inr rfl)
      rcases t with ⟨_ | _, ht⟩
      · exact hwait c _ hq
      · show (levAts L lv : sProp 𝕄) ⊢ MayWait (c : Thread nD τ) (.dma _) () 0
        rw [MayWait_zero]; iintro -; iempintro)
    (G := G) (G' := G') (u₀ := (initOf (Pipeline.cells cfgs cellOf_inj) (Pipeline.launchToks cfgs cellOf_inj), uT))
    (hu₀ := by
      iintro Hu
      ihave H := (ownU_pair _ _) $$ Hu
      icases H with ⟨HP, HX⟩
      imod hfund $$ HX with HG
      imodintro
      isplitl [HP] <;> iassumption)
    (hglob := by simp only [ownSems_eq, freeSems_eq]; exact hglob)
    (hA := fun _ _ => rfl) (hpf := fun _ k => k.elim0)
    (X := S) (Y := fun c => unscopedSems0 c) (Z := fun _ => iprop(emp))
    (hX := fun c => by
      iintro ⟨-, Hlev, Hcr, -, HG⟩
      imodintro
      isplitl
      · iapply (hS c)
        isplitl [Hlev]; · iexact Hlev
        isplitl [Hcr] <;> iassumption
      · iempintro)
    (hin := fun c => by
      rw [show (plan m out S E O 0 c).Φ 0 = iprop(S c ∗ ∃ f, holds c cc0_scratch0 f) from rfl, scopedRest0_eq]
      iintro ⟨HS, -, Hr⟩
      isplitl [HS] <;> iassumption)
    (hout := fun c => by
      rw [show (plan m out S E O 0 c).Φ (Fin.last cfg0.N) = E c from rfl, scopedRest0_eq, ownSems_eq, freeSems_eq]
      exact hE c)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun s h hs => ⟨fun c => ⟨((h c).1 (2 : Fin 3)).trans (result_eq m out S E O c),
        ((h c).1 (1 : Fin 3)).trans ((plan m out S E O 0 c).arrAt_in (1 : Fin 3) rfl _),
        ((h c).1 (0 : Fin 3)).trans ((plan m out S E O 0 c).arrAt_in (0 : Fin 3) rfl _)⟩,
      sem_eq_zero hs fun c => (h c).2.2⟩)

end Cert.Pairs

end
-- ==== Proof.Stay.lean ====
/-
# The table `[0, 1]`: every device keeps its block

The word a device reads is its own coordinate, so the body copies its block of `x` into the result buffer and does
nothing else: no signal, no transfer, nothing owed. The launch hands the three counters at zero through unchanged.
-/
module

public import proofs.«01_k».proof.Proof.Common

@[expose] public section

noncomputable section

namespace Cert.Pairs.Stay

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The word is the device's own coordinate: the first branch is taken, the second is not. -/
theorem first (c : Dev nD) : isOwn c (BitVec.ofNat 32 (c.val / 8)) = 1#1 := by revert c; decide +kernel
theorem second (c : Dev nD) : ¬ k0_cond2 c (BitVec.ofNat 32 (c.val / 8)) = 1#1 := by revert c; decide +kernel
theorem chk (c : Dev nD) : k0_chk1 c (BitVec.ofNat 32 (c.val / 8)) := ⟨fun h => absurd h (second c), fun h => absurd h (second c)⟩

variable (m : (ℓ : Loc nD τ sig) → Buf (Elt F) ℓ) (ρ : Dev nD → PrngReg)

/-- The table is `[0, 1]` on every device. -/
def Table : Prop := ∀ c : Dev nD, tabOf m c (slot c) = BitVec.ofNat 32 (c.val / 8)

/-- All of a device's counters at zero. -/
def idle (c : Dev nD) : sProp 𝕄 := iprop(ownZero c ∗ semVal (barC c) 0)

set_option maxHeartbeats 800000 in
theorem body (hT : Table m) :
    Runs m (xOf m) idle (fun c => iprop(idle c ∗ ∃ f, holds c cc0_scratch0 f)) (fun _ => 0) := fun c W Q f g => by
  unfold bodyProg
  simp only [cc0_body_eq_skeleton]; unfold cc0_body_skel
  simp only [semSignalWord, semWaitWord, smemLoad, smemLoadElt, Prog.lift, Prog.bind_op, Prog.bind_ret, Prog.pure_eq_ret, Prog.bind_assoc, wp_deviceId]
  iintro ⟨HS, HO, Htab, Hin, Hout, Hcom, Hk⟩
  iapply (wp_load_rect noVar (c : Thread nD τ) none Set.univ (m := tabM) (r := wordRect c) (Finset.subset_univ _)) $$ Htab; iintro Htab
  have hw := (wordAt_eq m c).trans (hT c)
  have hchk : k0_chk1 c (wordAt (F := F) c (tabOf m c)) := by rw [hw]; exact chk c
  have hfst : isOwn c (wordAt (F := F) c (tabOf m c)) = 1#1 := by rw [hw]; exact first c
  have hsnd : ¬ k0_cond2 c (wordAt (F := F) c (tabOf m c)) = 1#1 := by rw [hw]; exact second c
  rw [wp_assume_of noVar (c : Thread nD τ) none Set.univ hchk, if_pos hfst]
  simp only [dif_neg hsnd]
  iapply (wp_load noVar (c : Thread nD τ) none Set.univ (m := inM) (Finset.subset_univ _)) $$ Hin; iintro Hin
  rw [load_in, pay1_eq]
  iapply (wp_load noVar (c : Thread nD τ) none Set.univ (m := outM) (Finset.subset_univ _)) $$ Hout; iintro Hout
  iapply (wp_store noVar (c : Thread nD τ) none Set.univ (m := outM) (r := full) (Mk := Finset.univ) (Finset.subset_univ _)) $$ Hout; iintro Hout
  rw [store_out, wp_ret]; imodintro
  iapply Hk $$ %W
  isplitl [HS Hcom]
  · isplitl [HS]; · iexact HS
    iexists g; iexact Hcom
  isplitl [HO]; · iexact HO
  isplitl [Htab]; · iexact Htab
  isplitl [Hin] <;> iassumption

/-- The run: the result is the block of `x`. -/
theorem run (hT : Table m) : θ_run defs (onTc (τ := τ) (main (F := F))) ⟨m, fun _ => 0, ρ⟩ (Ends m (xOf m)) :=
  run_of m ρ (xOf m) idle (fun c => iprop(idle c ∗ ∃ f, holds c cc0_scratch0 f)) (fun _ => 0) (body m hT) (fun _ _ => 0)
    (fun c q _ => by rw [MayWait_zero]; iintro -; iempintro)
    (fun _ => iprop(emp)) idle (initOf ∅ ∅)
    (by iintro -; imodintro; iapply (Entails.of_eq (bigSep_emp_const (M := 𝕄) (Finset.univ : Finset (Dev nD))).symm); iempintro)
    (by
      refine (bigSep_mono fun c _ => ?_).trans (show bigSep Finset.univ idle ⊢ |={Set.univ}=> bigSep Finset.univ idle from fupd_intro)
      show iprop(ownZero c ∗ semVal (barC c) 0 ∗ emp) ⊢ idle c
      unfold idle
      iintro ⟨H1, H2, -⟩
      isplitl [H1] <;> iassumption)
    (fun c => by iintro ⟨-, -, H⟩; iexact H)
    (fun c => by
      unfold idle
      iintro ⟨⟨H1, H2⟩, H3⟩
      isplitl [H2]; · iexact H2
      isplitl [H1] <;> iassumption)

end Cert.Pairs.Stay

end
-- ==== Proof.Trade.lean ====
/-
# The table `[1, 0]`: devices `c` and `c + 8` trade blocks

The word device `c` reads is the other coordinate along the mesh's first axis, so its partner is `oth c`, eight devices
on (or back). Each pair runs the same exchange both ways:

* `c` signals `oth c`'s barrier: its own result buffer may now be written. The signal hands that buffer over.
* `c` copies its block into its scratch buffer and waits for the signal from `oth c`, which brings `oth c`'s result buffer.
* `c` sends its scratch buffer into that buffer, and waits for its own send (the scratch buffer is back) and for `oth c`'s
  (its own result buffer is back, holding `oth c`'s block).

Every cell has a single round with a single payer, so a cell is named by its device and one of three semaphores, and
everything the launch deals out is indexed by such pairs (`cell`).
-/
module

public import proofs.«01_k».proof.Proof.Common

@[expose] public section

noncomputable section

namespace Cert.Pairs.Trade

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The partner -/

/-- The device `c` trades with. -/
def oth (c : Dev nD) : Dev nD := ⟨(c.val + 8) % 16, Nat.mod_lt _ (by decide)⟩

theorem oth_oth (c : Dev nD) : oth (oth c) = c := by revert c; decide
def swap : Dev nD ≃ Dev nD := ⟨oth, oth, oth_oth, oth_oth⟩

/-- The word device `c` reads. -/
abbrev word (c : Dev nD) : BitVec 32 := BitVec.ofNat 32 (1 - c.val / 8)

theorem first (c : Dev nD) : ¬ isOwn c (word c) = 1#1 := by revert c; decide +kernel
theorem second (c : Dev nD) : k0_cond2 c (word c) = 1#1 := by revert c; decide +kernel
theorem dev1 (c : Dev nD) : k0_dev1 c (word c) = (oth c).val := by revert c; decide +kernel
theorem dev2 (c : Dev nD) : k0_dev2 c (word c) = (oth c).val := by revert c; decide +kernel
theorem chk (c : Dev nD) : k0_chk1 c (word c) := ⟨fun _ => by rw [dev1]; exact (oth c).isLt, fun _ => by rw [dev2]; exact (oth c).isLt⟩

/-! ## Cells -/

abbrev sems : Fin 3 → SemLoc sig := fun | 0 => .reg barS | 1 => .dma sndS | 2 => .dma rcvS
abbrev cell (p : Dev nD × Fin 3) : GSem nD τ sig := ((p.1 : Thread nD τ), sems p.2)

theorem cell_inj : Function.Injective cell := fun p p' h => by
  have hs : sems p.2 = sems p'.2 := congrArg Prod.snd h
  have hk : p.2 = p'.2 := by
    revert hs; generalize p.2 = a; generalize p'.2 = b; revert a b; decide
  exact Prod.ext (show p.1 = p'.1 from congrArg (fun g : GSem nD τ sig => g.1.1) h) hk

theorem snd_bar : (SemLoc.dma sndS : SemLoc sig) ≠ .reg barS := by decide
theorem rcv_bar : (SemLoc.dma rcvS : SemLoc sig) ≠ .reg barS := by decide
theorem snd_rcv : (SemLoc.dma sndS : SemLoc sig) ≠ .dma rcvS := by decide

/-- What moving one block counts for. -/
abbrev N : ℕ := outM.view.dmaCredit
theorem N_pos : 0 < N := View.dmaCredit_pos _ (by decide)

/-! ## Buffers as a transfer names them -/

/-- Device `c`'s result and scratch buffers. -/
def outB (c : Dev nD) (f : Buf (Elt F) (outM.view.loc (c : Thread nD τ))) : sProp 𝕄 :=
  outM.view.loc (c : Thread nD τ) ↦[outM.view.set]{fullShare} f
def comB (c : Dev nD) (f : Buf (Elt F) (comM.view.loc (c : Thread nD τ))) : sProp 𝕄 :=
  comM.view.loc (c : Thread nD τ) ↦[comM.view.set]{fullShare} f

omit [FloatOps F] in
theorem outB_eq (c : Dev nD) (f : (cc0_stg2_0 : Ref sig .tc).ty.Contents (Elt F)) : (outB c f : sProp 𝕄) = holds c cc0_stg2_0 f := by
  unfold outB; rw [View.set_whole]
omit [FloatOps F] in
theorem comB_eq (c : Dev nD) (f : (cc0_scratch0 : Ref sig .tc).ty.Contents (Elt F)) : (comB c f : sProp 𝕄) = holds c cc0_scratch0 f := by
  unfold comB; rw [View.set_whole]

omit [FloatOps F] in
instance outB_storable (c : Dev nD) (f) : BI.Storable (upEmb : UEmb _ 𝕄) (outB (F := F) c f) := by unfold outB; infer_instance
omit [FloatOps F] in
instance comB_storable (c : Dev nD) (f) : BI.Storable (upEmb : UEmb _ 𝕄) (comB (F := F) c f) := by unfold comB; infer_instance

omit [FloatOps F] in
/-- The scratch buffer sent into a result buffer is that buffer's contents after. -/
theorem sent_eq (c : Dev nD) (fd : Buf (Elt F) (outM.view.loc (c : Thread nD τ))) (fs : (cc0_scratch0 : Ref sig .tc).ty.Contents (Elt F)) :
    outM.view.write (Elt F) fd (comM.view.read (Elt F) fs) Finset.univ = fs := by
  show (View.whole cc0_stg2_0).write (Elt F) fd ((View.whole cc0_scratch0).read (Elt F) fs) Finset.univ = fs
  rw [View.read_whole]; exact View.write_whole_univ _ _ _

/-! ## The schedule -/

variable (m : (ℓ : Loc nD τ sig) → Buf (Elt F) ℓ) (ρ : Dev nD → PrngReg)

/-- What a wait on one of device `c`'s cells brings: the barrier its partner's result buffer; the outgoing transfer its own
    scratch buffer; the incoming transfer its own result buffer, with its partner's block in it. -/
def gift (c : Dev nD) (s : SemLoc sig) : sProp 𝕄 :=
  if s = .reg barS then iprop(∃ f, outB (oth c) f)
  else if s = .dma rcvS then outB c (xOf m (oth c))
  else if s = .dma sndS then comB c (xOf m c)
  else iprop(emp)

/-- One round, one payer a cell. -/
def sched : Rounds.Schedule (GSem nD τ sig) Unit 𝕄 where
  duties g r := if r = 0 ∧ g.1.2 = .tc ∧ ∃ k, g.2 = sems k then {()} else ∅
  unitless _ := False
  amount g _ _ := if g.2 = .reg barS then 1 else N
  payload g _ _ := gift m g.1.1 g.2
  amount_pos g _ _ _ := by
    split
    · exact Nat.one_pos
    · exact N_pos

instance sched_storable (g : GSem nD τ sig) (r : ℕ) (d : Unit) : BI.Storable (upEmb : UEmb _ 𝕄) ((sched (F := F) m).payload g r d) := by
  show BI.Storable upEmb (gift m g.1.1 g.2)
  unfold gift; (repeat' split) <;> infer_instance

section Sched
omit [FloatOps F]

theorem duty (p : Dev nD × Fin 3) : (sched (F := F) m).duties (cell p) 0 = {()} := by
  dsimp only [sched]; exact if_pos ⟨rfl, rfl, p.2, rfl⟩
theorem duty_mem (p : Dev nD × Fin 3) : () ∈ (sched (F := F) m).duties (cell p) 0 := by rw [duty]; exact Finset.mem_singleton_self _
theorem duty_later (g : GSem nD τ sig) : ∀ r, 1 ≤ r → (sched (F := F) m).duties g r = ∅ := fun r hr => by
  dsimp only [sched]; exact if_neg fun h => by omega

theorem amount_bar (c : Dev nD) : (sched (F := F) m).amount (barC c) 0 () = 1 := by dsimp only [sched]; exact if_pos rfl
theorem amount_snd (c : Dev nD) : (sched (F := F) m).amount (sndC c) 0 () = N := by dsimp only [sched]; exact if_neg snd_bar
theorem amount_rcv (c : Dev nD) : (sched (F := F) m).amount (rcvC c) 0 () = N := by dsimp only [sched]; exact if_neg rcv_bar

theorem expect (p : Dev nD × Fin 3) : (sched (F := F) m).expect (cell p) 0 = (sched (F := F) m).amount (cell p) 0 () := by
  unfold Schedule.expect Schedule.amountOf; rw [duty, Finset.sum_singleton]

theorem gift_bar (c : Dev nD) : gift m c (.reg barS) = iprop(∃ f, outB (oth c) f) := if_pos rfl
theorem gift_rcv (c : Dev nD) : gift m c (.dma rcvS) = outB c (xOf m (oth c)) := (if_neg rcv_bar).trans (if_pos rfl)
theorem gift_snd (c : Dev nD) : gift m c (.dma sndS) = comB c (xOf m c) := (if_neg snd_bar).trans ((if_neg snd_rcv).trans (if_pos rfl))

theorem rest (p : Dev nD × Fin 3) :
    bigSep ((sched (F := F) m).duties (cell p) 0 \ ∅) (fun d => (sched (F := F) m).payload (cell p) 0 d) = gift m p.1 (sems p.2) := by
  rw [Finset.sdiff_empty, duty, bigSep_singleton]; rfl

end Sched

/-! ## Debts and levels -/

/-- Device `c` owes its partner a block and a signal. -/
def debt (c : Dev nD) : CellTallies nD τ sig Unit := tallyAt (rcvC (oth c)) () N + tallyAt (barC (oth c)) () 1

/-- Barriers come before arrivals, and everything else before both. -/
def lv (g : GSem nD τ sig) (_ : Unit) : ℕ := if g.2 = .reg barS then 1 else if g.2 = .dma rcvS then 2 else 0
theorem lv_bar (c : Dev nD) : lv (barC c) () = 1 := if_pos rfl
theorem lv_rcv (c : Dev nD) : lv (rcvC c) () = 2 := (if_neg rcv_bar).trans (if_pos rfl)

theorem tally_pos {g g' : GSem nD τ sig} {u : Unit} {n : ℕ} (h : 0 < (tallyAt g () n : CellTallies nD τ sig Unit) g' u) : g' = g := by
  by_contra hn
  rw [tallyAt_apply, if_neg fun h' => hn h'.1] at h; exact Nat.lt_irrefl 0 h
theorem debt_pos {c : Dev nD} {g : GSem nD τ sig} {u : Unit} (h : 0 < debt c g u) : g = rcvC (oth c) ∨ g = barC (oth c) := by
  unfold debt at h
  rw [Pi.add_apply, Finsupp.add_apply] at h
  rcases Nat.eq_zero_or_pos ((tallyAt (rcvC (oth c)) () N : CellTallies nD τ sig Unit) g u) with h0 | h0
  · rw [h0, Nat.zero_add] at h; exact Or.inr (tally_pos h)
  · exact Or.inl (tally_pos h0)

omit [FloatOps F] in
theorem wait_stage (c : Dev nD) (q : DmaSem sig) (hq : IsStage q) : (levAts L lv : sProp 𝕄) ⊢ MayWait (c : Thread nD τ) (.dma q) () (debt c) := by
  have hne : SemLoc.dma q ≠ SemLoc.dma rcvS := by rcases hq with rfl | rfl | rfl <;> decide
  refine MayOwe.of_cut (L := L) (lev := lv) 0 (fun p hp => by rw [Finset.mem_singleton.mp hp]; exact L_tc _ _) (fun g u hg => ?_)
    (fun p hp => by
      rw [Finset.mem_singleton.mp hp]
      exact le_of_eq ((if_neg fun h => by cases h).trans (if_neg hne))) (fun g u hg => ?_)
  · rcases debt_pos hg with rfl | rfl <;> exact L_tc _ _
  · rcases debt_pos hg with rfl | rfl
    · rw [show lv (rcvC (oth c)) u = 2 from lv_rcv _]; decide
    · rw [show lv (barC (oth c)) u = 1 from lv_bar _]; decide
omit [FloatOps F] in
theorem wait_bar (c : Dev nD) : (levAts L lv : sProp 𝕄) ⊢ MayWait (c : Thread nD τ) (.reg barS) () (tallyAt (rcvC (oth c)) () N) :=
  MayOwe.of_cut (L := L) (lev := lv) 1 (fun p hp => by rw [Finset.mem_singleton.mp hp]; exact L_tc _ _)
    (fun g u hg => by rw [tally_pos hg]; exact L_tc _ _)
    (fun p hp => by rw [Finset.mem_singleton.mp hp]; exact le_of_eq (lv_bar c))
    (fun g u hg => by rw [tally_pos hg, show lv (rcvC (oth c)) u = 2 from lv_rcv _]; decide)

/-! ## What a device starts from -/

/-- Every cell's invariant, under the names `K`, and that every cell has reached its round. -/
def records (K : Dev nD × Fin 3 → ℕ) : sProp 𝕄 :=
  iprop((bigSep Finset.univ fun p => cellInv ER (sched m) (K p) (cell p)) ∗ bigSep Finset.univ fun p : Dev nD × Fin 3 => reached ER (cell p) 0)
instance records_persistent (K : Dev nD × Fin 3 → ℕ) : BI.Persistent (records m K) := by unfold records; infer_instance

omit [FloatOps F] in
theorem record (K : Dev nD × Fin 3 → ℕ) (p : Dev nD × Fin 3) : records m K ⊢ iprop(cellInv ER (sched m) (K p) (cell p) ∗ reached ER (cell p) 0) :=
  BI.sep_mono (bigSep_elim (Finset.mem_univ p)) (bigSep_elim (Finset.mem_univ p))

/-- Device `c`'s own positions and the three duties it pays: its partner's barrier and arrival, its own departure. -/
def mine (c : Dev nD) : sProp 𝕄 :=
  iprop((atPos ER (barC c) 0 ∅ 0 ∗ atPos ER (sndC c) 0 ∅ 0 ∗ atPos ER (rcvC c) 0 ∅ 0)
    ∗ dutyTok ER (barC (oth c)) 0 () ∗ dutyTok ER (sndC c) 0 () ∗ dutyTok ER (rcvC (oth c)) 0 ())

def dealt (c : Dev nD) : sProp 𝕄 := iprop((∃ K, records m K) ∗ mine c)
def start (c : Dev nD) : sProp 𝕄 :=
  iprop(dealt m c ∗ (cred (tallyAt (barC c) () 1) ∗ cred (tallyAt (rcvC c) () N)) ∗ levAts L lv)
def finish (c : Dev nD) : sProp 𝕄 := iprop(semVal (barC c) 0 ∗ ownZero c ∗ ∃ f, holds c cc0_scratch0 f)

/-! ## The body -/

/-- The table is `[1, 0]` on every device. -/
def Table : Prop := ∀ c : Dev nD, tabOf m c (slot c) = word c

/-- The signal, to a device `n` that is the partner. -/
theorem signal (K : Dev nD × Fin 3 → ℕ) (c n : Dev nD) (hn : n = oth c) (W : Waits sig Unit) (f : FVec F S1x512x512 .bf16)
    {α : Type} {Q : α → sProp 𝕄} {k : PUnit → Prog (TpuEff nD τ sig (Elt F) Λ₀ .tc) α} :
    iprop(records m K ∗ owes (c : Thread nD τ) (debt c) W ∗ dutyTok ER (barC (oth c)) 0 () ∗ holds c cc0_stg2_0 f)
      ⊢ iprop((owes (c : Thread nD τ) (tallyAt (rcvC (oth c)) () N) W -∗ wp frame (wpE (defs₀ (F := F)) noVar (c : Thread nD τ) none) Set.univ (k ⟨⟩) Q)
          -∗ wp frame (wpE (defs₀ (F := F)) noVar (c : Thread nD τ) none) Set.univ (.op (.semSignal (Dev.tc n) barS (1#32 : BitVec 32).toInt) k) Q) := by
  subst hn
  iintro ⟨#HR, HO, Ht, Hout⟩ Hk
  ihave ⟨#HI, #Hr⟩ := (record m K (oth c, 0)) $$ HR
  iapply (Rounds.wp_signal noVar ER (sched m) (c : Thread nD τ) none (dst := (oth c : Thread nD τ)) (κ := K (oth c, 0))
      (duty_mem m (oth c, 0)) ((amount_bar m (oth c)).trans (show 1 = (1#32 : BitVec 32).toNat from rfl)) () (O₀ := debt c) (tallyAt (rcvC (oth c)) () N) rfl)
    $$ [HO Ht Hout]
  · isplitr; · iexact HI
    isplitl [HO]; · iexact HO
    isplitl [Ht]; · iexact Ht
    isplitl [Hout]
    · rw [show (sched m).payload ((oth c : Thread nD τ), .reg barS) 0 () = gift m (oth c) (.reg barS) from rfl, gift_bar, oth_oth]
      iexists f; rw [outB_eq]; iexact Hout
    iexact Hr
  iexact Hk

/-- The transfer, to a device `n` that is the partner. -/
theorem send (K : Dev nD × Fin 3 → ℕ) (c n : Dev nD) (hn : n = oth c) {hsc : (outM : Memref sig (Dev.tc n : Thread nD τ).2.kind .vmem S1x512x512 .bf16).view.ref.isScScratch = false}
    {hsrc : comM.view.WordExact} {hdst : outM.view.WordExact}
    {hsem : DmaTarget.Typed .vmem (.dma rcvS) (.remote (Dev.tc n : Thread nD τ) outM (.dma sndS) hsc)}
    {α : Type} {Q : α → sProp 𝕄} {k : PUnit → Prog (TpuEff nD τ sig (Elt F) Λ₀ .tc) α}
    (fd : Buf (Elt F) (outM.view.loc (oth c : Thread nD τ))) (W : Waits sig Unit) :
    iprop(records m K ∗ comB c (xOf m c) ∗ outB (oth c) fd ∗ owes (c : Thread nD τ) (tallyAt (rcvC (oth c)) () N) W
        ∗ dutyTok ER (sndC c) 0 () ∗ dutyTok ER (rcvC (oth c)) 0 ())
      ⊢ iprop(((cred (tallyAt (sndC c) () N) ∗ owes (c : Thread nD τ) 0 W) -∗ wp frame (wpE (defs₀ (F := F)) noVar (c : Thread nD τ) none) Set.univ (k ⟨⟩) Q)
          -∗ wp frame (wpE (defs₀ (F := F)) noVar (c : Thread nD τ) none) Set.univ
              (.op (.enqueueDma comM (.remote (Dev.tc n : Thread nD τ) outM (.dma sndS) hsc) (.dma rcvS) hsrc hdst hsem) k) Q) := by
  subst hn
  unfold comB outB
  iintro ⟨#HR, Hcom, Hout, HO, Hts, Htr⟩ Hk
  ihave ⟨#HIs, #Hrs⟩ := (record m K (c, 1)) $$ HR
  ihave ⟨#HIr, #Hrr⟩ := (record m K (oth c, 2)) $$ HR
  iapply (Rounds.wp_send_pointsTo noVar ER (sched m) (c : Thread nD τ) none (κ₁ := K (c, 1)) (κ₂ := K (oth c, 2))
    (r₁ := 0) (r₂ := 0) (d₁ := ()) (d₂ := ()) (fd := fd) (duty_mem m (c, 1)) (duty_mem m (oth c, 2))
    () () N rfl (amount_snd m c) (amount_rcv m (oth c)) 0 (by rw [zero_add]) (W := W)
    (by rw [show (sched m).payload ((c : Thread nD τ), .dma sndS) 0 () = gift m c (.dma sndS) from rfl, gift_snd]; exact BI.Entails.refl _)
    (by
      rw [show (sched m).payload ((oth c : Thread nD τ), .dma rcvS) 0 () = gift m (oth c) (.dma rcvS) from rfl, gift_rcv, oth_oth, sent_eq]
      exact BI.Entails.refl _)) $$ [Hcom Hout HO Hts Htr]
  · isplitr; · iexact HIs
    isplitr; · iexact HIr
    isplitl [Hcom]; · iexact Hcom
    isplitl [Hout]; · iexact Hout
    isplitl [HO]; · iexact HO
    isplitl [Hts]; · iexact Hts
    isplitr; · iexact Hrs
    isplitl [Htr]; · iexact Htr
    iexact Hrr
  iexact Hk

omit [FloatOps F] in
/-- A cell whose round is over gives its counter back at zero. -/
theorem close (K : Dev nD × Fin 3 → ℕ) (p : Dev nD × Fin 3) :
    iprop(records m K ∗ atPos ER (cell p) (0 + 1) ∅ 0) ⊢ |={Set.univ}=> (semVal (cell p) 0 : sProp 𝕄) := by
  iintro ⟨#HR, Hat⟩
  ihave ⟨#HI, -⟩ := (record m K p) $$ HR
  iapply (Rounds.cell_close ER (sched m) (Set.mem_univ (K p)) (fun h => h) (R := 0 + 1) (duty_later m (cell p)))
  isplitr; · iexact HI
  iexact Hat

set_option maxHeartbeats 1600000 in
/-- The body on device `c`, effect by effect. -/
theorem body (hT : Table m) : Runs m (fun c => xOf m (oth c)) (start m) finish debt := fun c W Q f g => by
  unfold bodyProg start dealt mine
  simp only [cc0_body_eq_skeleton]; unfold cc0_body_skel
  simp only [semSignalWord, semWaitWord, smemLoad, smemLoadElt, Prog.lift, Prog.bind_op, Prog.bind_ret, Prog.pure_eq_ret, Prog.bind_assoc, wp_deviceId]
  iintro ⟨⟨⟨⟨%K, #HR⟩, ⟨HatB, HatS, HatR⟩, HtB, HtS, HtR⟩, ⟨HcB, HcR⟩, #Hlev⟩, HO, Htab, Hin, Hout, Hcom, Hk⟩
  -- the table word
  iapply (wp_load_rect noVar (c : Thread nD τ) none Set.univ (m := tabM) (r := wordRect c) (Finset.subset_univ _)) $$ Htab; iintro Htab
  have hw := (wordAt_eq m c).trans (hT c)
  have hchk : k0_chk1 c (wordAt (F := F) c (tabOf m c)) := by rw [hw]; exact chk c
  have hfst : ¬ isOwn c (wordAt (F := F) c (tabOf m c)) = 1#1 := by rw [hw]; exact first c
  have hsnd : k0_cond2 c (wordAt (F := F) c (tabOf m c)) = 1#1 := by rw [hw]; exact second c
  have hd1 : (⟨k0_dev1 c (wordAt (F := F) c (tabOf m c)), k0_dev1_lt _ _ hchk hsnd⟩ : Dev nD) = oth c := Fin.ext (by
    show k0_dev1 c (wordAt (F := F) c (tabOf m c)) = _; rw [hw]; exact dev1 c)
  have hd2 : (⟨k0_dev2 c (wordAt (F := F) c (tabOf m c)), k0_dev2_lt _ _ hchk hsnd⟩ : Dev nD) = oth c := Fin.ext (by
    show k0_dev2 c (wordAt (F := F) c (tabOf m c)) = _; rw [hw]; exact dev2 c)
  rw [wp_assume_of noVar (c : Thread nD τ) none Set.univ hchk, if_neg hfst, dif_pos hsnd]
  -- the signal gives the result buffer away
  iapply (signal m K c _ hd1 W f) $$ [HO HtB Hout]
  · isplitr; · iexact HR
    isplitl [HO]; · iexact HO
    isplitl [HtB] <;> iassumption
  iintro HO
  -- the copy into the scratch buffer
  iapply (wp_load noVar (c : Thread nD τ) none Set.univ (m := inM) (Finset.subset_univ _)) $$ Hin; iintro Hin
  rw [load_in, pay2_eq]
  iapply (wp_load noVar (c : Thread nD τ) none Set.univ (m := comM) (Finset.subset_univ _)) $$ Hcom; iintro Hcom
  iapply (wp_store noVar (c : Thread nD τ) none Set.univ (m := comM) (r := full) (Mk := Finset.univ) (Finset.subset_univ _)) $$ Hcom; iintro Hcom
  rw [store_com]
  -- the wait for the partner's signal brings its result buffer
  ihave ⟨#HIB, -⟩ := (record m K (c, 0)) $$ HR
  ihave ⟨#HIS, -⟩ := (record m K (c, 1)) $$ HR
  ihave ⟨#HIR, -⟩ := (record m K (c, 2)) $$ HR
  iapply (Rounds.wp_wait_rest_token noVar ER (sched m) (c : Thread nD τ) none (κ := K (c, 0))
      (wpE_semWait_eq noVar (c : Thread nD τ) none Set.univ) (Set.mem_univ _) () (O := tallyAt (rcvC (oth c)) () N) (W := W) (R := 0) (m := 0) (T := ∅)
      (by rw [expect m (c, 0), amount_bar]; decide)) $$ [HcB HO HatB]
  · isplitr; · iexact HIB
    isplitl [HcB]; · iexact HcB
    isplitl [HO]; · iexact HO
    isplitr; · iapply (wait_bar c); iexact Hlev
    iexact HatB
  iintro ⟨HO, HatB, -, Hpay⟩
  ihave ⟨%fd, HoutN⟩ := (Entails.of_eq ((rest m (c, 0)).trans (gift_bar m c))) $$ Hpay
  -- the transfer into it
  ihave Hcom' := (Entails.of_eq (comB_eq c (xOf m c)).symm) $$ Hcom
  iapply (send m K c _ hd2 fd (insert (SemLoc.reg barS, ()) W)) $$ [Hcom' HoutN HO HtS HtR]
  · isplitr; · iexact HR
    isplitl [Hcom']; · iexact Hcom'
    isplitl [HoutN]; · iexact HoutN
    isplitl [HO]; · iexact HO
    isplitl [HtS] <;> iassumption
  iintro ⟨HcS, HO⟩
  -- sent: the scratch buffer is back
  iapply (Rounds.wp_wait_rest_token noVar ER (sched m) (c : Thread nD τ) none (κ := K (c, 1))
      (wpE_waitDma2_eq noVar (c : Thread nD τ) none Set.univ) (Set.mem_univ _) () (O := 0) (R := 0) (m := 0) (T := ∅)
      (by rw [Nat.zero_add, expect m (c, 1), amount_snd])) $$ [HcS HO HatS]
  · isplitr; · iexact HIS
    isplitl [HcS]; · iexact HcS
    isplitl [HO]; · iexact HO
    isplitr; · rw [MayWait_zero]; iempintro
    iexact HatS
  iintro ⟨HO, HatS, -, Hpay⟩
  ihave Hcom := (Entails.of_eq ((rest m (c, 1)).trans ((gift_snd m c).trans (comB_eq c _)))) $$ Hpay
  -- arrived: the result buffer is back, holding the partner's block
  iapply (Rounds.wp_wait_rest_token noVar ER (sched m) (c : Thread nD τ) none (κ := K (c, 2))
      (wpE_waitDma2_eq noVar (c : Thread nD τ) none Set.univ) (Set.mem_univ _) () (O := 0) (R := 0) (m := 0) (T := ∅)
      (by rw [Nat.zero_add, expect m (c, 2), amount_rcv])) $$ [HcR HO HatR]
  · isplitr; · iexact HIR
    isplitl [HcR]; · iexact HcR
    isplitl [HO]; · iexact HO
    isplitr; · rw [MayWait_zero]; iempintro
    iexact HatR
  iintro ⟨HO, HatR, -, Hpay⟩
  ihave Hout := (Entails.of_eq ((rest m (c, 2)).trans ((gift_rcv m c).trans (outB_eq c _)))) $$ Hpay
  imod (close m K (c, 0)) $$ [HatB] with HzB
  · isplitr; · iexact HR
    iexact HatB
  imod (close m K (c, 1)) $$ [HatS] with HzS
  · isplitr; · iexact HR
    iexact HatS
  imod (close m K (c, 2)) $$ [HatR] with HzR
  · isplitr; · iexact HR
    iexact HatR
  rw [wp_ret]; imodintro
  iapply Hk
  isplitl [HzB HzS HzR Hcom]
  · unfold finish
    isplitl [HzB]; · iexact HzB
    isplitl [HzS HzR]
    · isplitl [HzS] <;> iassumption
    iexists _; iexact Hcom
  isplitl [HO]; · iexact HO
  isplitl [Htab]; · iexact Htab
  isplitl [Hin] <;> iassumption

/-! ## The launch -/

/-- The trade's cells, and one duty token for each. -/
def cells : Finset (GSem nD τ sig) := Finset.univ.map ⟨cell, cell_inj⟩
def tokens : Finset (GSem nD τ sig × ℕ × Unit) := Finset.univ.map ⟨fun p => (cell p, 0, ()), fun _ _ h => cell_inj (congrArg Prod.fst h)⟩

/-- What a cell is funded with beside its counter: the state of its round, its mark, its owner's position, its duty. -/
def fundOf (p : Dev nD × Fin 3) : sProp 𝕄 :=
  iprop(roundState ER (sched m) (cell p) 0 ∗ reached ER (cell p) 0 ∗ atPos ER (cell p) 0 ∅ 0 ∗ dutyTok ER (cell p) 0 ())

omit [FloatOps F] in
theorem three (Φ : Fin 3 → sProp 𝕄) : bigSep Finset.univ Φ = iprop(Φ 0 ∗ Φ 1 ∗ Φ 2) := bigSep_univ_eq_bigSepL [0, 1, 2] (by decide) (by decide) Φ

omit [FloatOps F] in
theorem funded : BI.own (ER (initOf cells tokens)) ⊢ (|==> bigSep Finset.univ fun c : Dev nD => bigSep Finset.univ fun k : Fin 3 => fundOf m (c, k) : sProp 𝕄) := by
  have hc (Φ : GSem nD τ sig → sProp 𝕄) : bigSep cells Φ = bigSep Finset.univ fun p => Φ (cell p) := by unfold cells; rw [bigSep_map]; rfl
  have ht : (bigSep tokens fun x => (dutyTok ER x.1 x.2.1 x.2.2 : sProp 𝕄)) = bigSep Finset.univ fun p => dutyTok ER (cell p) 0 () := by
    unfold tokens; rw [bigSep_map]; rfl
  rw [← bigSep_univ_prod (fun p : Dev nD × Fin 3 => fundOf m p)]
  unfold fundOf
  rw [bigSep_sep', bigSep_sep', bigSep_sep']
  iintro H
  imod (Rounds.fund ER (sched m) cells tokens) $$ H with ⟨Hst, Hr, Hat, Htok⟩
  imodintro
  ihave Hst := (Entails.of_eq (hc fun g => roundState ER (sched m) g 0)) $$ Hst
  ihave Hr := (Entails.of_eq (hc fun g => reached ER g 0)) $$ Hr
  ihave Hat := (Entails.of_eq (hc fun g => atPos ER g 0 ∅ 0)) $$ Hat
  ihave Htok := (Entails.of_eq ht) $$ Htok
  isplitl [Hst]; · iexact Hst
  isplitl [Hr]; · iexact Hr
  isplitl [Hat] <;> iassumption

omit [FloatOps F] in
/-- One cell set up: its invariant allocated, the rest as it was. -/
theorem set_up (p : Dev nD × Fin 3) :
    iprop(semVal (cell p) 0 ∗ fundOf m p) ⊢ |={Set.univ}=> iprop((∃ κ : ℕ, cellInv ER (sched m) κ (cell p)) ∗ reached ER (cell p) 0
      ∗ atPos ER (cell p) 0 ∅ 0 ∗ dutyTok ER (cell p) 0 () : sProp 𝕄) := by
  unfold fundOf
  iintro ⟨Hz, Hst, Hrest⟩
  imod ((Rounds.body_intro ER (sched m) (cell p)).trans inv_alloc) $$ [Hz Hst] with HI
  · isplitl [Hz] <;> iassumption
  imodintro
  isplitl [HI] <;> iassumption

omit [FloatOps F] in
/-- The positions stay with their devices; a barrier's and an arrival's duty go to the partner. -/
theorem deal :
    (bigSep Finset.univ fun p : Dev nD × Fin 3 => iprop(atPos ER (cell p) 0 ∅ 0 ∗ dutyTok ER (cell p) 0 ()) : sProp 𝕄)
      ⊢ bigSep Finset.univ fun c : Dev nD => mine c := by
  rw [bigSep_sep', bigSep_univ_prod, bigSep_univ_prod,
    bigSep_congr (s := Finset.univ) fun (c : Dev nD) _ => three (F := F) fun k => atPos ER (cell (c, k)) 0 ∅ 0,
    bigSep_congr (s := Finset.univ) fun (c : Dev nD) _ => three (F := F) fun k => dutyTok ER (cell (c, k)) 0 ()]
  unfold mine
  rw [bigSep_sep' (M := 𝕄) Finset.univ (fun c : Dev nD => dutyTok ER (cell (c, 0)) 0 ()), bigSep_sep' (M := 𝕄) Finset.univ (fun c : Dev nD => dutyTok ER (cell (c, 1)) 0 ()),
    bigSep_univ_equiv swap (fun c : Dev nD => (dutyTok ER (cell (c, 0)) 0 () : sProp 𝕄)),
    bigSep_univ_equiv swap (fun c : Dev nD => (dutyTok ER (cell (c, 2)) 0 () : sProp 𝕄)), ← bigSep_sep', ← bigSep_sep', ← bigSep_sep']
  exact BI.Entails.refl _

omit [FloatOps F] in
/-- All the cells of all the devices set up at once. -/
theorem global : (bigSep Finset.univ fun c : Dev nD => iprop(ownZero c ∗ semVal (barC c) 0 ∗ bigSep Finset.univ fun k : Fin 3 => fundOf m (c, k)) : sProp 𝕄)
    ⊢ |={Set.univ}=> bigSep Finset.univ (dealt m) := by
  have hcells : (bigSep Finset.univ fun c : Dev nD => iprop(ownZero c ∗ semVal (barC c) 0 ∗ bigSep Finset.univ fun k : Fin 3 => fundOf m (c, k)) : sProp 𝕄)
      ⊢ bigSep Finset.univ fun p : Dev nD × Fin 3 => iprop(semVal (cell p) 0 ∗ fundOf m p) := by
    rw [bigSep_univ_prod]
    refine bigSep_mono fun c _ => ?_
    rw [bigSep_sep', three fun k => semVal (cell (c, k)) 0]
    show iprop(ownZero c ∗ semVal (barC c) 0 ∗ bigSep Finset.univ fun k : Fin 3 => fundOf m (c, k))
      ⊢ iprop((semVal (barC c) 0 ∗ semVal (sndC c) 0 ∗ semVal (rcvC c) 0) ∗ bigSep Finset.univ fun k : Fin 3 => fundOf m (c, k))
    iintro ⟨⟨HS, HR⟩, HB, HF⟩
    isplitl [HB HS HR]
    · isplitl [HB]; · iexact HB
      isplitl [HS] <;> iassumption
    iexact HF
  refine (hcells.trans ((bigSep_mono fun p _ => set_up m p).trans (bigSep_fupd _ _))).trans (BI.fupd_mono ?_)
  rw [bigSep_sep', bigSep_sep']
  iintro ⟨HI, #HR, Hrest⟩
  ihave ⟨%K, #HI⟩ := (BI.bigSep_exists_pi Finset.univ (fun (p : Dev nD × Fin 3) (κ : ℕ) => (cellInv ER (sched m) κ (cell p) : sProp 𝕄))) $$ HI
  ihave Hm := (deal (F := F)) $$ Hrest
  have hall : iprop(records m K ∗ bigSep Finset.univ fun c : Dev nD => mine c) ⊢ bigSep Finset.univ (dealt m) := by
    refine (sep_mono_left (BI.bigSep_of_persistent (Finset.univ : Finset (Dev nD)) (records m K))).trans ?_
    rw [← bigSep_sep']
    exact bigSep_mono fun c _ => show iprop(records m K ∗ mine c) ⊢ dealt m c from by
      unfold dealt
      iintro ⟨H1, H2⟩
      isplitl [H1]; · iexists K; iexact H1
      iexact H2
  iapply hall
  isplitr
  · unfold records; isplitr <;> iassumption
  iexact Hm

/-! ## The credit the launch deals -/

theorem cell_eq_iff {a b : Dev nD} {k : Fin 3} : cell (a, k) = cell (b, k) ↔ a = b :=
  ⟨fun h => congrArg Prod.fst (cell_inj h), fun h => h ▸ rfl⟩
theorem oth_eq_iff {a b : Dev nD} : a = oth b ↔ b = oth a := ⟨fun h => by rw [h, oth_oth], fun h => by rw [h, oth_oth]⟩

theorem debt_bar (d c : Dev nD) : debt d (barC c) () = if d = oth c then 1 else 0 := by
  unfold debt
  rw [Pi.add_apply, Finsupp.add_apply, tallyAt_ne_cell (fun h => rcv_bar (congrArg Prod.snd h).symm), Finsupp.zero_apply, Nat.zero_add, tallyAt_apply]
  refine if_congr ⟨fun h => ?_, fun h => ?_⟩ rfl rfl
  · exact oth_eq_iff.mp (cell_eq_iff (k := 0).mp h.1)
  · exact ⟨cell_eq_iff (k := 0).mpr (oth_eq_iff.mp h), rfl⟩
theorem debt_rcv (d c : Dev nD) : debt d (rcvC c) () = if d = oth c then N else 0 := by
  unfold debt
  rw [Pi.add_apply, Finsupp.add_apply, tallyAt_ne_cell (g := barC (oth d)) (fun h => rcv_bar (congrArg Prod.snd h)), Finsupp.zero_apply, Nat.add_zero, tallyAt_apply]
  refine if_congr ⟨fun h => ?_, fun h => ?_⟩ rfl rfl
  · exact oth_eq_iff.mp (cell_eq_iff (k := 2).mp h.1)
  · exact ⟨cell_eq_iff (k := 2).mpr (oth_eq_iff.mp h), rfl⟩

theorem credit_at (c : Dev nD) (g : GSem nD τ sig) (n : ℕ) (h : ∀ d, debt d g () = if d = oth c then n else 0) :
    tallyOn g (launchCredit (Pipeline.owing debt) 0 g) = (tallyAt g () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (oth c) fun _ => n,
    if_pos (Finset.mem_univ _)]

omit [FloatOps F] in
theorem credits (c : Dev nD) : (Pipeline.launchCred debt c : sProp 𝕄) ⊢ iprop(cred (tallyAt (barC c) () 1) ∗ cred (tallyAt (rcvC c) () N)) := by
  unfold Pipeline.launchCred
  rw [bigSep_univ_at _ (SemLoc.reg barS), credit_at c (barC c) 1 fun d => debt_bar d c]
  refine sep_mono_right ?_
  rw [← credit_at c (rcvC c) N fun d => debt_rcv d c]
  exact bigSep_elim (Finset.mem_erase.mpr ⟨rcv_bar, Finset.mem_univ _⟩)

/-- The run: the result is the partner's block of `x`. -/
theorem run (hT : Table m) : θ_run defs (onTc (τ := τ) (main (F := F))) ⟨m, fun _ => 0, ρ⟩ (Ends m fun c => xOf m (oth c)) :=
  run_of m ρ (fun c => xOf m (oth c)) (start m) finish debt (body m hT) lv wait_stage
    (fun c => bigSep Finset.univ fun k : Fin 3 => fundOf m (c, k)) (dealt m) (initOf cells tokens) (funded m) (global m)
    (fun c => by
      unfold start
      iintro ⟨Hlev, Hcr, HG⟩
      ihave Hc := (credits (F := F) c) $$ Hcr
      isplitl [HG]; · iexact HG
      isplitl [Hc] <;> iassumption)
    (fun c => BI.Entails.refl _)

end Cert.Pairs.Trade

end
-- ==== Proof.Rows.lean ====
/-
# What the reference computes: rows of `x`, picked by the inverse of the table

The reference sorts the table, takes the positions in sorted order, and gathers those rows of `x`. For the two tables
in question the positions are worked out from the definitions (`starts_exchange`, `starts_keep`); the gather read at an
index is one entry of the picked row (`gather_at`). A device's block of the gathered array is then a whole block of `x`:
the block of the device across (`block_exchange`), or its own (`block_keep`).
-/
module

public import proofs.«01_k».proof.Proof.Trade
public import proofs.«01_k».proof.Proof.Gen.ReferenceWords
public import proofs.«01_k».proof.Proof.Gen.Pre_exchange_Kernel
public import proofs.«01_k».proof.Proof.Gen.Pre_keep_Kernel

@[expose] public section

noncomputable section

namespace Cert.Pairs.Rows

open Cert.ReferenceWords Cert.ReferenceWords.Gen Idealize.ShloMosaic

/-- The row each row of the result is read from: the table's positions in sorted order, a negative one counted from the end. -/
def starts (t : IVec S2 32) : IVec S2x1 32 :=
  broadcastInDim S2x1 ![0] bcast_S2_S2x1_0
    (select (cmpi .slt ((Host.sort2 S2 0 comparator_i32_i32_d0 t (iotaInDim S2 32 0)).2) (broadcastInDim S2 ![] bcast_S_S2 (constantI S_ 32 0#32)))
      (addi ((Host.sort2 S2 0 comparator_i32_i32_d0 t (iotaInDim S2 32 0)).2) (broadcastInDim S2 ![] bcast_S_S2 (constantI S_ 32 2#32)))
      ((Host.sort2 S2 0 comparator_i32_i32_d0 t (iotaInDim S2 32 0)).2))

/-- The rows of `x` so picked. -/
def picked {α : Type} (x : S2x512x512.Idx → α) (t : IVec S2 32) : S2x512x512.Idx → α :=
  Host.gather gather_S2x512x512_S2x1_S2x512x512_12_0_n_n_0_1_1512512 x (starts t)

/-- The table `[1, 0]`, and the table `[0, 1]`. -/
def crossed : IVec S2 32 := fun i => Cert.Pre_exchange_Kernel.lit0 (S2.rowMajor i)
def straight : IVec S2 32 := fun i => Cert.Pre_keep_Kernel.lit0 (S2.rowMajor i)

theorem starts_exchange : ∀ k : S2x1.Idx, starts crossed k = BitVec.ofNat 32 (1 - (k 0).val) := by decide +kernel
theorem starts_keep : ∀ k : S2x1.Idx, starts straight k = BitVec.ofNat 32 (k 0).val := by decide +kernel

/-- An entry of the gathered rows: where the start index of the row is `b`, the entry at the same place in row `b` of `x`. -/
theorem gather_at {α : Type} (x : S2x512x512.Idx → α) (idx : IVec S2x1 32) (i j : S2x512x512.Idx)
    (h0 : ∀ k : S2x1.Idx, (k 0).val = (i 0).val → idx k = BitVec.ofNat 32 (j 0).val)
    (h1 : (j 1).val = (i 1).val) (h2 : (j 2).val = (i 2).val) :
    Host.gather gather_S2x512x512_S2x1_S2x512x512_12_0_n_n_0_1_1512512 x idx i = x j := by
  refine congrArg x (funext fun a => Fin.ext ?_)
  match a with
  | ⟨0, _⟩ =>
    show min (idx (GatherDims.siIdx gather_S2x512x512_S2x1_S2x512x512_12_0_n_n_0_1_1512512 i ⟨0, by decide⟩)).toInt.toNat 1 + 0 + 0 = (j 0).val
    rw [h0 _ rfl]
    have hj : (j 0).val < 2 := (j 0).isLt
    generalize (j 0).val = n at hj ⊢
    revert n; decide
  | ⟨1, _⟩ => show 0 + 0 + (i 1).val = (j 1).val; omega
  | ⟨2, _⟩ => show 0 + 0 + (i 2).val = (j 2).val; omega

/-- A device's block is numbered by its first mesh coordinate. -/
theorem block_no : ∀ c : Fin 16, ((Layout.meshBlock [2, 2, 4] ![[0], [], []] c) (0 : Fin 3)).val = c.val / 8 := by decide

/-- Device `c`'s block of an array of two rows. -/
abbrev blockOf {α : Type} (c : Fin 16) (v : S2x512x512.Idx → α) : (⟨3, ![1, 512, 512]⟩ : Shape).Idx → α :=
  Layout.blockN ⟨3, ![1, 512, 512]⟩ ⟨3, ![2, 512, 512]⟩ (Layout.meshBlock [2, 2, 4] ![[0], [], []] c) v

/-- Device `c`'s block of the picked rows is device `d`'s block of `x`, when `c`'s row is picked from `d`'s. -/
theorem block_picked {α : Type} (x : S2x512x512.Idx → α) (t : IVec S2 32) (c d : Fin 16)
    (h : ∀ k : S2x1.Idx, (k 0).val = c.val / 8 → starts t k = BitVec.ofNat 32 (d.val / 8)) :
    blockOf c (picked x t) = blockOf d x := by
  funext i
  have hi : (i 0).val = 0 := Nat.lt_one_iff.1 (i 0).isLt
  refine gather_at x _ _ _ (fun k hk => ?_) rfl rfl
  have e : ∀ e : Fin 16, ((Layout.meshBlock [2, 2, 4] ![[0], [], []] e) (0 : Fin 3)).val * 1 + (i 0).val = e.val / 8 := fun e => by
    rw [block_no, hi, Nat.mul_one, Nat.add_zero]
  exact (h k (hk.trans (e c))).trans (congrArg _ (e d).symm)

theorem across : ∀ c : Fin 16, 1 - c.val / 8 = (Trade.oth c).val / 8 := by decide

theorem block_exchange {α : Type} (x : S2x512x512.Idx → α) (c : Fin 16) : blockOf c (picked x crossed) = blockOf (Trade.oth c) x :=
  block_picked x _ c _ fun k hk => (starts_exchange k).trans (congrArg _ ((congrArg (1 - ·) hk).trans (across c)))

theorem block_keep {α : Type} (x : S2x512x512.Idx → α) (c : Fin 16) : blockOf c (picked x straight) = blockOf c x :=
  block_picked x _ c _ fun k hk => (starts_keep k).trans (congrArg _ hk)

/-! ## The preconditions -/

/-- A comparison for equality that is one everywhere is an equality. -/
theorem eq_of_cmpi {t u : IVec S2 32} (h : cmpi .eq t u = fun _ => 1#1) : t = u := by
  funext i
  have hi : BitVec.ofBool (t i == u i) = 1#1 := congrFun h i
  cases hb : t i == u i with
  | true => exact eq_of_beq hb
  | false => rw [hb] at hi; exact absurd hi (by decide)

variable {F : FTy → Type} [FloatOps F]

theorem crossed_of {x : FVec F Cert.Pre_exchange_Kernel.S1x512x512 .bf16} {t : IVec S2 32}
    (h : Cert.Pre_exchange_Kernel.fn (F := F) x t = fun _ => 1#1) : t = crossed := eq_of_cmpi h

theorem straight_of {x : FVec F Cert.Pre_keep_Kernel.S1x512x512 .bf16} {t : IVec S2 32}
    (h : Cert.Pre_keep_Kernel.fn (F := F) x t = fun _ => 1#1) : t = straight := eq_of_cmpi h

/-- The word a device reads off each table. -/
theorem crossed_at : ∀ c : Fin 16, crossed (slot c) = Trade.word c := by decide +kernel
theorem straight_at : ∀ c : Fin 16, straight (slot c) = BitVec.ofNat 32 (c.val / 8) := by decide +kernel

end Cert.Pairs.Rows

end
-- ==== Proof.lean ====
/-
# The claims

The program's two runs (Proof/Trade.lean, Proof/Stay.lean) under the two preconditions, the reference's run, and the
value equations between them (Proof/Rows.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceWords
public import proofs.«01_k».proof.Proof.Gen.Pre_exchange_Kernel
public import proofs.«01_k».proof.Proof.Gen.Pre_keep_Kernel
public import proofs.«01_k».proof.Proof.Gen.Pre_exchange_ReferenceIdeal
public import proofs.«01_k».proof.Proof.Gen.Pre_keep_ReferenceIdeal
public import proofs.«01_k».proof.Proof.Gen.ReferenceIdeal.Run
public import proofs.«01_k».proof.Proof.Gen.ReferenceWords.Run
public import proofs.«01_k».proof.Proof.Stay
public import proofs.«01_k».proof.Proof.Trade
public import proofs.«01_k».proof.Proof.Rows
public import Idealize.ShloMosaic.Adequacy
public import Idealize.ShloMosaic.Init

@[expose] public section

noncomputable section

namespace Cert.Proof

open Idealize.ShloMosaic Idealize.SL.Sem Cert.Pairs Cert.Pairs.Rows

/-! ## The program's runs, at the two tables -/

section
variable {F : FTy → Type} [FloatOps F]
variable (m : (ℓ : Loc Cert.KernelIdeal.nD Cert.KernelIdeal.τ Cert.KernelIdeal.sig) → Buf (Elt F) ℓ) (ρ : Dev Cert.KernelIdeal.nD → PrngReg)

/-- At `[1, 0]` every device ends with the block of the device across. -/
theorem run_exchange (h : ∀ c, Cert.Pre_exchange_Kernel.fn (F := F) (xOf m c) (tabOf m c) = fun _ => 1#1) :
    θ_run Cert.KernelIdeal.defs (onTc (τ := Cert.KernelIdeal.τ) (Cert.KernelIdeal.main (F := F))) ⟨m, fun _ => 0, ρ⟩
      (Ends m fun c => xOf m (Trade.oth c)) :=
  Trade.run m ρ fun c => (congrFun (crossed_of (h c)) (slot c)).trans (crossed_at c)

/-- At `[0, 1]` every device ends with its own block. -/
theorem run_keep (h : ∀ c, Cert.Pre_keep_Kernel.fn (F := F) (xOf m c) (tabOf m c) = fun _ => 1#1) :
    θ_run Cert.KernelIdeal.defs (onTc (τ := Cert.KernelIdeal.τ) (Cert.KernelIdeal.main (F := F))) ⟨m, fun _ => 0, ρ⟩ (Ends m (xOf m)) :=
  Stay.run m ρ fun c => (congrFun (straight_of (h c)) (slot c)).trans (straight_at c)

/-- The run against whole arrays `x` and `t` cut over the devices, at `[1, 0]`: device `c`'s result is its block of the picked rows. -/
theorem whole_exchange (h : ∀ c, Cert.Pre_exchange_Kernel.fn (F := F) (xOf m c) (tabOf m c) = fun _ => 1#1)
    (x : FVec F Cert.ReferenceWords.S2x512x512 .bf16) (t : IVec Cert.ReferenceWords.S2 32) (hag : ∀ c, xOf m c = blockOf c x ∧ tabOf m c = t) :
    θ_run Cert.KernelIdeal.defs (onTc (τ := Cert.KernelIdeal.τ) (Cert.KernelIdeal.main (F := F))) ⟨m, fun _ => 0, ρ⟩
      (Ends m fun c => blockOf c (picked x t)) := by
  have e : (fun c => xOf m (Trade.oth c)) = fun c => blockOf c (picked x t) := funext fun c => by
    rw [show t = crossed from (hag c).2.symm.trans (crossed_of (h c))]
    exact (hag _).1.trans (block_exchange x c).symm
  exact e ▸ run_exchange m ρ h

/-- The same at `[0, 1]`. -/
theorem whole_keep (h : ∀ c, Cert.Pre_keep_Kernel.fn (F := F) (xOf m c) (tabOf m c) = fun _ => 1#1)
    (x : FVec F Cert.ReferenceWords.S2x512x512 .bf16) (t : IVec Cert.ReferenceWords.S2 32) (hag : ∀ c, xOf m c = blockOf c x ∧ tabOf m c = t) :
    θ_run Cert.KernelIdeal.defs (onTc (τ := Cert.KernelIdeal.τ) (Cert.KernelIdeal.main (F := F))) ⟨m, fun _ => 0, ρ⟩
      (Ends m fun c => blockOf c (picked x t)) := by
  have e : xOf m = fun c => blockOf c (picked x t) := funext fun c => by
    rw [show t = straight from (hag c).2.symm.trans (straight_of (h c))]
    exact (hag _).1.trans (block_keep x c).symm
  exact e ▸ run_keep m ρ h

end

/-! ## The two printings of the program

The program as written and its reading on the extended reals are the same text over any float values, so a run of the
second is a run of the first. -/

section
variable {F : FTy → Type} [FloatOps F]

theorem bodies_eq : Cert.Kernel.defs₀ (F := F) = Cert.KernelIdeal.defs₀ (F := F) :=
  congrArg Defs.onTc (funext fun l => funext fun p => match l, p with
    | 0, (_, _) => rfl
    | ⟨_ + 1, h⟩, _ => absurd h (Nat.not_lt.2 (Nat.le_add_left _ _)))

theorem defs_eq : Cert.Kernel.defs (F := F) = Cert.KernelIdeal.defs (F := F) := by
  unfold Cert.Kernel.defs Cert.KernelIdeal.defs
  exact congrArg (Pipeline.defs _) bodies_eq

theorem as_written (m : (ℓ : Loc Cert.Kernel.nD Cert.Kernel.τ Cert.Kernel.sig) → Buf (Elt F) ℓ) (ρ : Dev Cert.Kernel.nD → PrngReg)
    {Q : PUnit × MemSt Cert.Kernel.nD Cert.Kernel.τ Cert.Kernel.sig (Elt F) → Prop}
    (h : θ_run Cert.KernelIdeal.defs (onTc (τ := Cert.KernelIdeal.τ) (Cert.KernelIdeal.main (F := F))) ⟨m, fun _ => 0, ρ⟩ Q) :
    θ_run Cert.Kernel.defs (onTc (τ := Cert.Kernel.τ) (Cert.Kernel.main (F := F))) ⟨m, fun _ => 0, ρ⟩ Q := by
  rw [defs_eq]; exact h

end

/-! ## Frames -/

theorem frame_p : Cert.quiescent_Kernel := fun m ρ h => as_written (F := Bits) m ρ
  ((θ_run Cert.KernelIdeal.defs _ _).mono (fun _ h => ⟨fun c => (h.1 c).2, h.2⟩) (run_exchange (F := Bits) m ρ h))
theorem frame_p_keep : Cert.quiescent_Kernel_pre_keep_Kernel := fun m ρ h => as_written (F := Bits) m ρ
  ((θ_run Cert.KernelIdeal.defs _ _).mono (fun _ h => ⟨fun c => (h.1 c).2, h.2⟩) (run_keep (F := Bits) m ρ h))
theorem frame_pi : Cert.quiescent_KernelIdeal := fun m ρ h =>
  (θ_run Cert.KernelIdeal.defs _ _).mono (fun _ h => ⟨fun c => (h.1 c).2, h.2⟩) (run_exchange (F := Ideal) m ρ h)
theorem frame_pi_keep : Cert.quiescent_KernelIdeal_pre_keep_Kernel := fun m ρ h =>
  (θ_run Cert.KernelIdeal.defs _ _).mono (fun _ h => ⟨fun c => (h.1 c).2, h.2⟩) (run_keep (F := Ideal) m ρ h)

/-- The mathematics' own runs: no semaphore is declared, so all are zero. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_rw : ∀ (m : (ℓ : Loc Cert.ReferenceWords.nD Cert.ReferenceWords.τ Cert.ReferenceWords.sig) → Buf (Elt Bits) ℓ)
    (ρ : Dev Cert.ReferenceWords.nD → PrngReg),
    θ_run Cert.ReferenceWords.defs (onTc (τ := Cert.ReferenceWords.τ) (Cert.ReferenceWords.main (F := Bits))) ⟨m, fun _ => 0, ρ⟩ fun r =>
      (∀ c : Dev Cert.ReferenceWords.nD,
        r.2.mem ((c.tc : Thread Cert.ReferenceWords.nD Cert.ReferenceWords.τ).loc Cert.ReferenceWords.main_arg0)
            = m ((c.tc : Thread Cert.ReferenceWords.nD Cert.ReferenceWords.τ).loc Cert.ReferenceWords.main_arg0)
          ∧ r.2.mem ((c.tc : Thread Cert.ReferenceWords.nD Cert.ReferenceWords.τ).loc Cert.ReferenceWords.main_arg1)
            = m ((c.tc : Thread Cert.ReferenceWords.nD Cert.ReferenceWords.τ).loc Cert.ReferenceWords.main_arg1))
      ∧ r.2.sem = fun _ => 0 := fun m ρ =>
  (θ_run Cert.ReferenceWords.defs _ _).mono (fun r h => ⟨fun c => (h c).2, sem_eq_zero_of_no_sems (by decide) r.2⟩)
    (Cert.ReferenceWords.Value.run (F := Bits) m ρ)

/-! ## Values

The shared array is the picked rows. On the extended reals the reference's widening and narrowing are the identity. -/

theorem alg : Cert.algebraic_KernelIdeal_ReferenceIdeal := fun m ρ m' ρ' h hag =>
  ⟨picked (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h => h.1) (whole_exchange (F := Ideal) m ρ h _ _ hag),
    (θ_run Cert.ReferenceIdeal.defs _ _).mono (fun _ h => h 0) (Cert.ReferenceIdeal.Value.run (F := Ideal) m' ρ')⟩

theorem alg_keep : Cert.algebraic_KernelIdeal_ReferenceIdeal_pre_keep_Kernel := fun m ρ m' ρ' h hag =>
  ⟨picked (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h => h.1) (whole_keep (F := Ideal) m ρ h _ _ hag),
    (θ_run Cert.ReferenceIdeal.defs _ _).mono (fun _ h => h 0) (Cert.ReferenceIdeal.Value.run (F := Ideal) m' ρ')⟩

theorem bit : Cert.bitexact_Kernel_ReferenceWords := fun m ρ m' ρ' h hag =>
  ⟨picked (m' (((0 : Dev Cert.ReferenceWords.nD).tc : Thread Cert.ReferenceWords.nD Cert.ReferenceWords.τ).loc Cert.ReferenceWords.main_arg0))
      (m' (((0 : Dev Cert.ReferenceWords.nD).tc : Thread Cert.ReferenceWords.nD Cert.ReferenceWords.τ).loc Cert.ReferenceWords.main_arg1)),
    as_written (F := Bits) m ρ ((θ_run Cert.KernelIdeal.defs _ _).mono (fun _ h => h.1) (whole_exchange (F := Bits) m ρ h _ _ hag)),
    (θ_run Cert.ReferenceWords.defs _ _).mono (fun _ h => h 0) (Cert.ReferenceWords.Value.run (F := Bits) m' ρ')⟩

theorem bit_keep : Cert.bitexact_Kernel_ReferenceWords_pre_keep_Kernel := fun m ρ m' ρ' h hag =>
  ⟨picked (m' (((0 : Dev Cert.ReferenceWords.nD).tc : Thread Cert.ReferenceWords.nD Cert.ReferenceWords.τ).loc Cert.ReferenceWords.main_arg0))
      (m' (((0 : Dev Cert.ReferenceWords.nD).tc : Thread Cert.ReferenceWords.nD Cert.ReferenceWords.τ).loc Cert.ReferenceWords.main_arg1)),
    as_written (F := Bits) m ρ ((θ_run Cert.KernelIdeal.defs _ _).mono (fun _ h => h.1) (whole_keep (F := Bits) m ρ h _ _ hag)),
    (θ_run Cert.ReferenceWords.defs _ _).mono (fun _ h => h 0) (Cert.ReferenceWords.Value.run (F := Bits) m' ρ')⟩

theorem claim : Cert.Claim := ⟨Cert.Kernel.Gen.facts, Cert.KernelIdeal.Gen.facts, Cert.ReferenceIdeal.Gen.facts, Cert.ReferenceWords.Gen.facts, Cert.Pre_exchange_Kernel.Gen.facts, Cert.Pre_keep_Kernel.Gen.facts, Cert.Pre_exchange_ReferenceIdeal.Gen.facts, Cert.Pre_keep_ReferenceIdeal.Gen.facts,
  frame_p, frame_p_keep, frame_pi, frame_pi_keep, frame_ri, fun m ρ _ => frame_ri m ρ trivial, fun m ρ _ => frame_ri m ρ trivial,
  fun m ρ _ => frame_rw m ρ, fun m ρ _ => frame_rw m ρ, trivial, alg, alg_keep, bit, bit_keep⟩

end Cert.Proof

end
